-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gains_finite [hPre_gains_finite : Cert.Pre_gains_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gains_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gains_finite [hPre_gains_finite : Cert.Pre_gains_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gains_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gains_finite [hKernelIdeal : Cert.KernelIdeal.Facts] [hPre_gains_finite : Cert.Pre_gains_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gains_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gains_finite [hReferenceIdeal : Cert.ReferenceIdeal.Facts] [hPre_gains_finite : Cert.Pre_gains_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gains_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal_pre_gains_finite [hKernelIdeal : Cert.KernelIdeal.Facts] [hReferenceIdeal : Cert.ReferenceIdeal.Facts] [hPre_gains_finite : Cert.Pre_gains_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gains_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_v152) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v25) = v2 c
          ∧ r.2.mem ((c.tc : Thread Cert.Reference2Ideal.nD Cert.Reference2Ideal.τ).loc Cert.Reference2Ideal.main_v27) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_v56) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v44) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_gains_finite : Cert.Pre_gains_finite.Facts),
    quiescent_Kernel (hKernel := hKernel)
    ∧ quiescent_KernelIdeal (hKernelIdeal := hKernelIdeal)
    ∧ quiescent_KernelIdeal_pre_gains_finite (hKernelIdeal := hKernelIdeal) (hPre_gains_finite := hPre_gains_finite)
    ∧ quiescent_ReferenceIdeal (hReferenceIdeal := hReferenceIdeal)
    ∧ quiescent_ReferenceIdeal_pre_gains_finite (hReferenceIdeal := hReferenceIdeal) (hPre_gains_finite := hPre_gains_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_gains_finite (hKernelIdeal := hKernelIdeal) (hReferenceIdeal := hReferenceIdeal) (hPre_gains_finite := hPre_gains_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_gains_finite.lean ====
abbrev S8192x1536 : Shape := ⟨2, ![8192, 1536]⟩
abbrev S128 : Shape := ⟨1, ![128]⟩
abbrev S2x16384x2048 : Shape := ⟨3, ![2, 16384, 2048]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S8192x1536 .bf16) (main_arg1 : FVec F S128 .f32) (main_arg2 : FVec F S128 .f32) (main_arg3 : FVec F S2x16384x2048 .f32) (main_arg4 : FVec F S2x16384x2048 .f32) : IVec S128 1 :=
  let main_v0 : FVec F S128 .f32 := Host.absf main_arg1
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S128 .f32 := Host.absf main_arg2
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  let main_v6 : IVec S128 1 := andi main_v2 main_v5
  main_v6
-- ==== Kernel.lean ====
abbrev S8192x1536 : Shape := ⟨2, ![8192, 1536]⟩
abbrev S128 : Shape := ⟨1, ![128]⟩
abbrev S2x16384x2048 : Shape := ⟨3, ![2, 16384, 2048]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x128 : Shape := ⟨2, ![1, 128]⟩
abbrev S8192x1024 : Shape := ⟨2, ![8192, 1024]⟩
abbrev S16384x2048 : Shape := ⟨2, ![16384, 2048]⟩
abbrev S2048x16384 : Shape := ⟨2, ![2048, 16384]⟩
abbrev S256x512 : Shape := ⟨2, ![256, 512]⟩
abbrev S256x128 : Shape := ⟨2, ![256, 128]⟩
abbrev S1x256x2048 : Shape := ⟨3, ![1, 256, 2048]⟩
abbrev S256x2048 : Shape := ⟨2, ![256, 2048]⟩
abbrev S2048x256 : Shape := ⟨2, ![2048, 256]⟩
abbrev S4096x256 : Shape := ⟨2, ![4096, 256]⟩
abbrev S128x128 : Shape := ⟨2, ![128, 128]⟩
abbrev S1024x128 : Shape := ⟨2, ![1024, 128]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩
abbrev S1024x256 : Shape := ⟨2, ![1024, 256]⟩

abbrev nBuf : Space → Nat
  | .hbm => 47
  | .vmem => 26
  | .smem => 0
  | _ => 0

abbrev bufTy : (tb : Table) → Fin (tcTables nBuf tb) → BufTy
  | .hbm, ⟨0, _⟩ => ⟨S8192x1536, .bf16⟩
  | .hbm, ⟨1, _⟩ => ⟨S128, .f32⟩
  | .hbm, ⟨2, _⟩ => ⟨S128, .f32⟩
  | .hbm, ⟨3, _⟩ => ⟨S2x16384x2048, .f32⟩
  | .hbm, ⟨4, _⟩ => ⟨S2x16384x2048, .f32⟩
  | .hbm, ⟨5, _⟩ => ⟨S64, .f32⟩
  | .hbm, ⟨6, _⟩ => ⟨S64x64, .f32⟩
  | .hbm, ⟨7, _⟩ => ⟨S4096, .f32⟩
  | .hbm, ⟨8, _⟩ => ⟨S64, .f32⟩
  | .hbm, ⟨9, _⟩ => ⟨S1x64, .f32⟩
  | .hbm, ⟨10, _⟩ => ⟨S64x64, .f32⟩
  | .hbm, ⟨11, _⟩ => ⟨S4096, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x1, .f32⟩
  | .hbm, ⟨26, _⟩ => ⟨S1x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x128, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x32, .f32⟩
  | .hbm, ⟨41, _⟩ => ⟨S4096x128, .f32⟩
  | .hbm, ⟨42, _⟩ => ⟨S1x128, .f32⟩
  | .hbm, ⟨43, _⟩ => ⟨S1x128, .f32⟩
  | .hbm, ⟨44, _⟩ => ⟨S8192x1024, .bf16⟩
  | .hbm, ⟨45, _⟩ => ⟨S16384x2048, .bf16⟩
  | .hbm, ⟨46, _⟩ => ⟨S2048x16384, .bf16⟩
  | .local _ .vmem, ⟨0, _⟩ => ⟨S256x512, .bf16⟩
  | .local _ .vmem, ⟨1, _⟩ => ⟨S256x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S4096x128, .f32⟩
  | .local _ .vmem, ⟨11, _⟩ => ⟨S4096x128, .f32⟩
  | .local _ .vmem, ⟨12, _⟩ => ⟨S1x128, .f32⟩
  | .local _ .vmem, ⟨13, _⟩ => ⟨S1x128, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .vmem, ⟨18, _⟩ => ⟨S256x512, .bf16⟩
  | .local _ .vmem, ⟨19, _⟩ => ⟨S256x512, .bf16⟩
  | .local _ .vmem, ⟨20, _⟩ => ⟨S256x2048, .bf16⟩
  | .local _ .vmem, ⟨21, _⟩ => ⟨S256x2048, .bf16⟩
  | .local _ .vmem, ⟨22, _⟩ => ⟨S2048x256, .bf16⟩
  | .local _ .vmem, ⟨23, _⟩ => ⟨S2048x256, .bf16⟩
  | .local _ .vmem, ⟨24, _⟩ => ⟨S4096x128, .bf16⟩
  | .local _ .vmem, ⟨25, _⟩ => ⟨S4096x256, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37_0 : Ref sig .tc := ⟨.hbm, 44, rfl⟩
abbrev main_v37_1 : Ref sig .tc := ⟨.hbm, 45, rfl⟩
abbrev main_v37_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let c0_i32_0 : BitVec 32 := 0#32
  let c0_i32_1 : BitVec 32 := 0#32
  ![c0_i32.toNat, v3.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let c0_i32_0 : BitVec 32 := 0#32
  let c0_i32_1 : BitVec 32 := 0#32
  ![c0_i32.toNat, v3.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let c0_i32_0 : BitVec 32 := 0#32
  ![v3.toNat, c0_i32.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c16_i32 : BitVec 32 := 16#32
  let v2 : BitVec 32 := Scalar.muli v1 c16_i32
  let v3 : BitVec 32 := Scalar.addi v2 arg2
  let c0_i32 : BitVec 32 := 0#32
  let c0_i32_0 : BitVec 32 := 0#32
  ![c0_i32.toNat, v3.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S2048x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]
-- ==== ReferenceIdeal.lean ====
abbrev S8192x1536 : Shape := ⟨2, ![8192, 1536]⟩
abbrev S128 : Shape := ⟨1, ![128]⟩
abbrev S2x16384x2048 : Shape := ⟨3, ![2, 16384, 2048]⟩
abbrev S2x4096x1536 : Shape := ⟨3, ![2, 4096, 1536]⟩
abbrev S2x4096x1024 : Shape := ⟨3, ![2, 4096, 1024]⟩
abbrev S2x4096x256 : Shape := ⟨3, ![2, 4096, 256]⟩
abbrev S2x4096x2x4x128 : Shape := ⟨5, ![2, 4096, 2, 4, 128]⟩
abbrev S_ : Shape := ⟨0, ![]⟩
abbrev S2x4096x2x4 : Shape := ⟨4, ![2, 4096, 2, 4]⟩
abbrev S2x4096x2x4x1 : Shape := ⟨5, ![2, 4096, 2, 4, 1]⟩
abbrev S1x1x1x1x128 : Shape := ⟨5, ![1, 1, 1, 1, 128]⟩
abbrev S2x4096x2x128 : Shape := ⟨4, ![2, 4096, 2, 128]⟩
abbrev S2x4096x2 : Shape := ⟨3, ![2, 4096, 2]⟩
abbrev S2x4096x2x1 : Shape := ⟨4, ![2, 4096, 2, 1]⟩
abbrev S1x1x1x128 : Shape := ⟨4, ![1, 1, 1, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S2x4096x2x4x64 : Shape := ⟨5, ![2, 4096, 2, 4, 64]⟩
abbrev S1x4096x1x1x32 : Shape := ⟨5, ![1, 4096, 1, 1, 32]⟩
abbrev S2x4096x2x4x32 : Shape := ⟨5, ![2, 4096, 2, 4, 32]⟩
abbrev S2x4096x2x64 : Shape := ⟨4, ![2, 4096, 2, 64]⟩
abbrev S1x4096x1x32 : Shape := ⟨4, ![1, 4096, 1, 32]⟩
abbrev S2x4096x2x32 : Shape := ⟨4, ![2, 4096, 2, 32]⟩
abbrev S2x2x4096x4096x4 : Shape := ⟨5, ![2, 2, 4096, 4096, 4]⟩
abbrev S2x2x4x4096x4096 : Shape := ⟨5, ![2, 2, 4, 4096, 4096]⟩
abbrev S2x2x4x4096 : Shape := ⟨4, ![2, 2, 4, 4096]⟩
abbrev S2x2x4x4096x1 : Shape := ⟨5, ![2, 2, 4, 4096, 1]⟩
abbrev S2x2x128x4x4096 : Shape := ⟨5, ![2, 2, 128, 4, 4096]⟩
abbrev S8192x1024 : Shape := ⟨2, ![8192, 1024]⟩
abbrev S1x16384x2048 : Shape := ⟨3, ![1, 16384, 2048]⟩
abbrev S16384x2048 : Shape := ⟨2, ![16384, 2048]⟩
abbrev S2048x16384 : Shape := ⟨2, ![2048, 16384]⟩

abbrev nBuf : Space → Nat
  | .hbm => 170
  | .vmem => 0
  | .smem => 0
  | _ => 0

abbrev hbmTy0_0 (i : Nat) : BufTy := match i % 128 with
  | 0 => ⟨S8192x1536, .bf16⟩
  | 1 => ⟨S128, .f32⟩
  | 2 => ⟨S128, .f32⟩
  | 3 => ⟨S2x16384x2048, .f32⟩
  | 4 => ⟨S2x16384x2048, .f32⟩
  | 5 => ⟨S8192x1536, .f32⟩
  | 6 => ⟨S2x4096x1536, .f32⟩
  | 7 => ⟨S2x4096x1024, .f32⟩
  | 8 => ⟨S2x4096x256, .f32⟩
  | 9 => ⟨S2x4096x256, .f32⟩
  | 10 => ⟨S2x4096x2x4x128, .f32⟩
  | 11 => ⟨S2x4096x2x4x128, .f32⟩
  | 12 => ⟨S_, .f32⟩
  | 13 => ⟨S2x4096x2x4, .f32⟩
  | 14 => ⟨S2x4096x2x4x1, .f32⟩
  | 15 => ⟨S_, .f32⟩
  | 16 => ⟨S2x4096x2x4x1, .f32⟩
  | 17 => ⟨S2x4096x2x4x1, .f32⟩
  | 18 => ⟨S_, .f32⟩
  | 19 => ⟨S2x4096x2x4x1, .f32⟩
  | 20 => ⟨S2x4096x2x4x1, .f32⟩
  | 21 => ⟨S2x4096x2x4x1, .f32⟩
  | 22 => ⟨S2x4096x2x4x128, .f32⟩
  | 23 => ⟨S2x4096x2x4x128, .f32⟩
  | 24 => ⟨S1x1x1x1x128, .f32⟩
  | 25 => ⟨S2x4096x2x4x128, .f32⟩
  | 26 => ⟨S2x4096x2x4x128, .f32⟩
  | 27 => ⟨S2x4096x2x128, .f32⟩
  | 28 => ⟨S2x4096x2x128, .f32⟩
  | 29 => ⟨S_, .f32⟩
  | 30 => ⟨S2x4096x2, .f32⟩
  | 31 => ⟨S2x4096x2x1, .f32⟩
  | 32 => ⟨S_, .f32⟩
  | 33 => ⟨S2x4096x2x1, .f32⟩
  | 34 => ⟨S2x4096x2x1, .f32⟩
  | 35 => ⟨S_, .f32⟩
  | 36 => ⟨S2x4096x2x1, .f32⟩
  | 37 => ⟨S2x4096x2x1, .f32⟩
  | 38 => ⟨S2x4096x2x1, .f32⟩
  | 39 => ⟨S2x4096x2x128, .f32⟩
  | 40 => ⟨S2x4096x2x128, .f32⟩
  | 41 => ⟨S1x1x1x128, .f32⟩
  | 42 => ⟨S2x4096x2x128, .f32⟩
  | 43 => ⟨S2x4096x2x128, .f32⟩
  | 44 => ⟨S2x4096x2x128, .f32⟩
  | 45 => ⟨S64, .f32⟩
  | 46 => ⟨S64x64, .f32⟩
  | 47 => ⟨S4096, .f32⟩
  | 48 => ⟨S64, .f32⟩
  | 49 => ⟨S1x64, .f32⟩
  | 50 => ⟨S64x64, .f32⟩
  | 51 => ⟨S4096, .f32⟩
  | 52 => ⟨S32, .f32⟩
  | 53 => ⟨S32, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S4096x1, .f32⟩
  | 61 => ⟨S1x32, .f32⟩
  | 62 => ⟨S4096x32, .f32⟩
  | 63 => ⟨S4096x32, .f32⟩
  | 64 => ⟨S4096x32, .f32⟩
  | 65 => ⟨S4096x1, .f32⟩
  | 66 => ⟨S1x32, .f32⟩
  | 67 => ⟨S4096x32, .f32⟩
  | 68 => ⟨S4096x32, .f32⟩
  | 69 => ⟨S4096x32, .f32⟩
  | 70 => ⟨S4096x32, .f32⟩
  | 71 => ⟨S4096x32, .f32⟩
  | 72 => ⟨S4096x32, .f32⟩
  | 73 => ⟨S4096x32, .f32⟩
  | 74 => ⟨S2x4096x2x4x64, .f32⟩
  | 75 => ⟨S2x4096x2x4x64, .f32⟩
  | 76 => ⟨S1x4096x1x1x32, .f32⟩
  | 77 => ⟨S1x4096x1x1x32, .f32⟩
  | 78 => ⟨S2x4096x2x4x32, .f32⟩
  | 79 => ⟨S2x4096x2x4x32, .f32⟩
  | 80 => ⟨S2x4096x2x4x32, .f32⟩
  | 81 => ⟨S2x4096x2x4x32, .f32⟩
  | 82 => ⟨S2x4096x2x4x32, .f32⟩
  | 83 => ⟨S2x4096x2x4x32, .f32⟩
  | 84 => ⟨S2x4096x2x4x32, .f32⟩
  | 85 => ⟨S2x4096x2x4x32, .f32⟩
  | 86 => ⟨S2x4096x2x4x32, .f32⟩
  | 87 => ⟨S2x4096x2x4x32, .f32⟩
  | 88 => ⟨S2x4096x2x4x32, .f32⟩
  | 89 => ⟨S2x4096x2x4x32, .f32⟩
  | 90 => ⟨S2x4096x2x4x64, .f32⟩
  | 91 => ⟨S1x4096x1x1x32, .f32⟩
  | 92 => ⟨S1x4096x1x1x32, .f32⟩
  | 93 => ⟨S2x4096x2x4x32, .f32⟩
  | 94 => ⟨S2x4096x2x4x32, .f32⟩
  | 95 => ⟨S2x4096x2x4x32, .f32⟩
  | 96 => ⟨S2x4096x2x4x32, .f32⟩
  | 97 => ⟨S2x4096x2x4x32, .f32⟩
  | 98 => ⟨S2x4096x2x4x32, .f32⟩
  | 99 => ⟨S2x4096x2x4x32, .f32⟩
  | 100 => ⟨S2x4096x2x4x32, .f32⟩
  | 101 => ⟨S2x4096x2x4x32, .f32⟩
  | 102 => ⟨S2x4096x2x4x32, .f32⟩
  | 103 => ⟨S2x4096x2x4x32, .f32⟩
  | 104 => ⟨S2x4096x2x4x32, .f32⟩
  | 105 => ⟨S2x4096x2x4x64, .f32⟩
  | 106 => ⟨S2x4096x2x4x128, .f32⟩
  | 107 => ⟨S2x4096x2x64, .f32⟩
  | 108 => ⟨S2x4096x2x64, .f32⟩
  | 109 => ⟨S1x4096x1x32, .f32⟩
  | 110 => ⟨S1x4096x1x32, .f32⟩
  | 111 => ⟨S2x4096x2x32, .f32⟩
  | 112 => ⟨S2x4096x2x32, .f32⟩
  | 113 => ⟨S2x4096x2x32, .f32⟩
  | 114 => ⟨S2x4096x2x32, .f32⟩
  | 115 => ⟨S2x4096x2x32, .f32⟩
  | 116 => ⟨S2x4096x2x32, .f32⟩
  | 117 => ⟨S2x4096x2x32, .f32⟩
  | 118 => ⟨S2x4096x2x32, .f32⟩
  | 119 => ⟨S2x4096x2x32, .f32⟩
  | 120 => ⟨S2x4096x2x32, .f32⟩
  | 121 => ⟨S2x4096x2x32, .f32⟩
  | 122 => ⟨S2x4096x2x32, .f32⟩
  | 123 => ⟨S2x4096x2x64, .f32⟩
  | 124 => ⟨S1x4096x1x32, .f32⟩
  | 125 => ⟨S1x4096x1x32, .f32⟩
  | 126 => ⟨S2x4096x2x32, .f32⟩
  | 127 => ⟨S2x4096x2x32, .f32⟩
  | _ => ⟨S8192x1536, .bf16⟩

abbrev hbmTy0_1 (i : Nat) : BufTy := match i % 128 with
  | 0 => ⟨S2x4096x2x32, .f32⟩
  | 1 => ⟨S2x4096x2x32, .f32⟩
  | 2 => ⟨S2x4096x2x32, .f32⟩
  | 3 => ⟨S2x4096x2x32, .f32⟩
  | 4 => ⟨S2x4096x2x32, .f32⟩
  | 5 => ⟨S2x4096x2x32, .f32⟩
  | 6 => ⟨S2x4096x2x32, .f32⟩
  | 7 => ⟨S2x4096x2x32, .f32⟩
  | 8 => ⟨S2x4096x2x32, .f32⟩
  | 9 => ⟨S2x4096x2x32, .f32⟩
  | 10 => ⟨S2x4096x2x64, .f32⟩
  | 11 => ⟨S2x4096x2x128, .f32⟩
  | 12 => ⟨S2x2x4096x4096x4, .f32⟩
  | 13 => ⟨S2x2x4x4096x4096, .f32⟩
  | 14 => ⟨S_, .f32⟩
  | 15 => ⟨S2x2x4x4096x4096, .f32⟩
  | 16 => ⟨S2x2x4x4096x4096, .f32⟩
  | 17 => ⟨S_, .f32⟩
  | 18 => ⟨S2x2x4x4096, .f32⟩
  | 19 => ⟨S_, .f32⟩
  | 20 => ⟨S2x2x4x4096, .f32⟩
  | 21 => ⟨S2x2x4x4096, .f32⟩
  | 22 => ⟨S2x2x4x4096x1, .f32⟩
  | 23 => ⟨S2x2x4x4096x4096, .f32⟩
  | 24 => ⟨S2x2x4x4096x4096, .f32⟩
  | 25 => ⟨S2x2x4x4096x4096, .f32⟩
  | 26 => ⟨S_, .f32⟩
  | 27 => ⟨S2x2x4x4096, .f32⟩
  | 28 => ⟨S2x2x4x4096x1, .f32⟩
  | 29 => ⟨S2x2x4x4096x4096, .f32⟩
  | 30 => ⟨S2x2x4x4096x4096, .f32⟩
  | 31 => ⟨S2x2x128x4x4096, .f32⟩
  | 32 => ⟨S2x4096x2x4x128, .f32⟩
  | 33 => ⟨S8192x1024, .f32⟩
  | 34 => ⟨S8192x1024, .bf16⟩
  | 35 => ⟨S1x16384x2048, .f32⟩
  | 36 => ⟨S16384x2048, .f32⟩
  | 37 => ⟨S16384x2048, .bf16⟩
  | 38 => ⟨S1x16384x2048, .f32⟩
  | 39 => ⟨S16384x2048, .f32⟩
  | 40 => ⟨S2048x16384, .f32⟩
  | 41 => ⟨S2048x16384, .bf16⟩
  | _ => ⟨S8192x1536, .bf16⟩

abbrev hbmTy (i : Nat) : BufTy := match i / 128 with
  | 0 => hbmTy0_0 i
  | 1 => hbmTy0_1 i
  | _ => ⟨S8192x1536, .bf16⟩

abbrev bufTy : (tb : Table) → Fin (tcTables nBuf tb) → BufTy
  | .hbm, ⟨i, _⟩ => hbmTy i
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_cst_7 : Ref sig .tc := ⟨.hbm, 142, rfl⟩
abbrev main_v129 : Ref sig .tc := ⟨.hbm, 143, rfl⟩
abbrev main_v130 : Ref sig .tc := ⟨.hbm, 144, rfl⟩
abbrev main_cst_8 : Ref sig .tc := ⟨.hbm, 145, rfl⟩
abbrev main_v131 : Ref sig .tc := ⟨.hbm, 146, rfl⟩
abbrev main_cst_9 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_cst_10 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩

abbrev nD : Nat := 1
abbrev τ : Topo := Topo.v7x

variable {F : FTy → Type} [FloatOps F]
-- ==== Kernel2.lean ====
abbrev S8192x2048 : Shape := ⟨2, ![8192, 2048]⟩
abbrev S2x1x12288 : Shape := ⟨3, ![2, 1, 12288]⟩
abbrev S2x2048x11520 : Shape := ⟨3, ![2, 2048, 11520]⟩
abbrev S8192x1536 : Shape := ⟨2, ![8192, 1536]⟩
abbrev S8192x2304 : Shape := ⟨2, ![8192, 2304]⟩
abbrev S8192x6144 : Shape := ⟨2, ![8192, 6144]⟩
abbrev S1024x2048 : Shape := ⟨2, ![1024, 2048]⟩
abbrev S1x1x2048 : Shape := ⟨3, ![1, 1, 2048]⟩
abbrev S1x2048x768 : Shape := ⟨3, ![1, 2048, 768]⟩
abbrev S1024x768 : Shape := ⟨2, ![1024, 768]⟩
abbrev S1x2048 : Shape := ⟨2, ![1, 2048]⟩
abbrev S2048x768 : Shape := ⟨2, ![2048, 768]⟩

abbrev nBuf : Space → Nat
  | .hbm => 7
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S2x1x12288, .f32⟩
  | .hbm, ⟨2, _⟩ => ⟨S2x2048x11520, .f32⟩
  | .hbm, ⟨3, _⟩ => ⟨S8192x1536, .bf16⟩
  | .hbm, ⟨4, _⟩ => ⟨S8192x2304, .bf16⟩
  | .hbm, ⟨5, _⟩ => ⟨S8192x1536, .bf16⟩
  | .hbm, ⟨6, _⟩ => ⟨S8192x6144, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x768, .f32⟩
  | .local _ .vmem, ⟨7, _⟩ => ⟨S1x2048x768, .f32⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | .local _ .vmem, ⟨12, _⟩ => ⟨S1024x768, .bf16⟩
  | .local _ .vmem, ⟨13, _⟩ => ⟨S1024x768, .bf16⟩
  | .local _ .vmem, ⟨14, _⟩ => ⟨S1024x768, .bf16⟩
  | .local _ .vmem, ⟨15, _⟩ => ⟨S1024x768, .bf16⟩
  | .local _ .vmem, ⟨16, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 15], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c2_i32 : BitVec 32 := 2#32
  let v4 : BitVec 1 := Scalar.cmpi .slt arg1 c2_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c2_i32_3 : BitVec 32 := 2#32
  let v8 : BitVec 1 := Scalar.cmpi .sge arg1 c2_i32_3
  let c5_i32 : BitVec 32 := 5#32
  let v9 : BitVec 1 := Scalar.cmpi .slt arg1 c5_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c5_i32_5 : BitVec 32 := 5#32
  let v13 : BitVec 1 := Scalar.cmpi .sge arg1 c5_i32_5
  let c7_i32 : BitVec 32 := 7#32
  let v14 : BitVec 1 := Scalar.cmpi .slt arg1 c7_i32
  let v15 : BitVec 1 := Scalar.andi v13 v14
  let v16 : BitVec 32 := Scalar.extui v15
  let c0_i32_6 : BitVec 32 := 0#32
  let v17 : BitVec 1 := Scalar.cmpi .ne v16 c0_i32_6
  v17

def k0_cond5 (i : grid0.Coords) : BitVec 1 :=
  let arg1 : BitVec 32 := BitVec.ofNat 32 (i 1).val
  let c7_i32_7 : BitVec 32 := 7#32
  let v18 : BitVec 1 := Scalar.cmpi .sge arg1 c7_i32_7
  let c15_i32 : BitVec 32 := 15#32
  let v19 : BitVec 1 := Scalar.cmpi .slt arg1 c15_i32
  let v20 : BitVec 1 := Scalar.andi v18 v19
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c2_i32_0 : BitVec 32 := 2#32
  let v1 : BitVec 32 := Scalar.maxsi c0_i32 v0
  let v2 : BitVec 32 := Scalar.minsi c2_i32_0 v1
  let c0_i32_1 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let c7_i32_0 : BitVec 32 := 7#32
  let v1 : BitVec 32 := Scalar.maxsi c0_i32 v0
  let v2 : BitVec 32 := Scalar.minsi c7_i32_0 v1
  let c0_i32_1 : BitVec 32 := 0#32
  ![arg0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S8192x2048 : Shape := ⟨2, ![8192, 2048]⟩
abbrev S2x1x12288 : Shape := ⟨3, ![2, 1, 12288]⟩
abbrev S2x2048x11520 : Shape := ⟨3, ![2, 2048, 11520]⟩
abbrev S2x4096x2048 : Shape := ⟨3, ![2, 4096, 2048]⟩
abbrev S2x1x2048 : Shape := ⟨3, ![2, 1, 2048]⟩
abbrev S_ : Shape := ⟨0, ![]⟩
abbrev S1x2048x11520 : Shape := ⟨3, ![1, 2048, 11520]⟩
abbrev S2048x11520 : Shape := ⟨2, ![2048, 11520]⟩
abbrev S2x4096x11520 : Shape := ⟨3, ![2, 4096, 11520]⟩
abbrev S2x4096x1536 : Shape := ⟨3, ![2, 4096, 1536]⟩
abbrev S2x4096x2304 : Shape := ⟨3, ![2, 4096, 2304]⟩
abbrev S2x4096x6144 : Shape := ⟨3, ![2, 4096, 6144]⟩
abbrev S8192x1536 : Shape := ⟨2, ![8192, 1536]⟩
abbrev S8192x2304 : Shape := ⟨2, ![8192, 2304]⟩
abbrev S8192x6144 : Shape := ⟨2, ![8192, 6144]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x1x12288, .f32⟩
  | .hbm, ⟨2, _⟩ => ⟨S2x2048x11520, .f32⟩
  | .hbm, ⟨3, _⟩ => ⟨S2x4096x2048, .f32⟩
  | .hbm, ⟨4, _⟩ => ⟨S2x1x2048, .f32⟩
  | .hbm, ⟨5, _⟩ => ⟨S2x1x2048, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S_, .f32⟩
  | .hbm, ⟨11, _⟩ => ⟨S2x1x2048, .f32⟩
  | .hbm, ⟨12, _⟩ => ⟨S2x1x2048, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S1x2048x11520, .f32⟩
  | .hbm, ⟨18, _⟩ => ⟨S2048x11520, .f32⟩
  | .hbm, ⟨19, _⟩ => ⟨S2x4096x11520, .f32⟩
  | .hbm, ⟨20, _⟩ => ⟨S2x4096x1536, .f32⟩
  | .hbm, ⟨21, _⟩ => ⟨S2x4096x2304, .f32⟩
  | .hbm, ⟨22, _⟩ => ⟨S2x4096x1536, .f32⟩
  | .hbm, ⟨23, _⟩ => ⟨S2x4096x6144, .f32⟩
  | .hbm, ⟨24, _⟩ => ⟨S8192x1536, .f32⟩
  | .hbm, ⟨25, _⟩ => ⟨S8192x1536, .bf16⟩
  | .hbm, ⟨26, _⟩ => ⟨S8192x2304, .f32⟩
  | .hbm, ⟨27, _⟩ => ⟨S8192x2304, .bf16⟩
  | .hbm, ⟨28, _⟩ => ⟨S8192x1536, .f32⟩
  | .hbm, ⟨29, _⟩ => ⟨S8192x1536, .bf16⟩
  | .hbm, ⟨30, _⟩ => ⟨S8192x6144, .f32⟩
  | .hbm, ⟨31, _⟩ => ⟨S8192x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩

abbrev nD : Nat := 1
abbrev τ : Topo := Topo.v7x

variable {F : FTy → Type} [FloatOps F]
-- ==== Kernel3.lean ====
abbrev S8192x1024 : Shape := ⟨2, ![8192, 1024]⟩
abbrev S8192x768 : Shape := ⟨2, ![8192, 768]⟩
abbrev S8192x6144 : Shape := ⟨2, ![8192, 6144]⟩
abbrev S2x1024x2048 : Shape := ⟨3, ![2, 1024, 2048]⟩
abbrev S2x768x2048 : Shape := ⟨3, ![2, 768, 2048]⟩
abbrev S1x1024x2048 : Shape := ⟨3, ![1, 1024, 2048]⟩
abbrev S1024x2048 : Shape := ⟨2, ![1024, 2048]⟩
abbrev S1x768x2048 : Shape := ⟨3, ![1, 768, 2048]⟩
abbrev S768x2048 : Shape := ⟨2, ![768, 2048]⟩
abbrev S8192x2048 : Shape := ⟨2, ![8192, 2048]⟩
abbrev S512x1024 : Shape := ⟨2, ![512, 1024]⟩
abbrev S512x768 : Shape := ⟨2, ![512, 768]⟩
abbrev S512x6144 : Shape := ⟨2, ![512, 6144]⟩
abbrev S512x2048 : Shape := ⟨2, ![512, 2048]⟩

abbrev nBuf : Space → Nat
  | .hbm => 17
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S8192x1024, .bf16⟩
  | .hbm, ⟨3, _⟩ => ⟨S8192x6144, .bf16⟩
  | .hbm, ⟨4, _⟩ => ⟨S2x1024x2048, .f32⟩
  | .hbm, ⟨5, _⟩ => ⟨S2x768x2048, .f32⟩
  | .hbm, ⟨6, _⟩ => ⟨S2x1024x2048, .f32⟩
  | .hbm, ⟨7, _⟩ => ⟨S1x1024x2048, .f32⟩
  | .hbm, ⟨8, _⟩ => ⟨S1024x2048, .f32⟩
  | .hbm, ⟨9, _⟩ => ⟨S1024x2048, .bf16⟩
  | .hbm, ⟨10, _⟩ => ⟨S1x768x2048, .f32⟩
  | .hbm, ⟨11, _⟩ => ⟨S768x2048, .f32⟩
  | .hbm, ⟨12, _⟩ => ⟨S768x2048, .bf16⟩
  | .hbm, ⟨13, _⟩ => ⟨S1x1024x2048, .f32⟩
  | .hbm, ⟨14, _⟩ => ⟨S1024x2048, .f32⟩
  | .hbm, ⟨15, _⟩ => ⟨S1024x2048, .bf16⟩
  | .hbm, ⟨16, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x768, .bf16⟩
  | .local _ .vmem, ⟨3, _⟩ => ⟨S512x768, .bf16⟩
  | .local _ .vmem, ⟨4, _⟩ => ⟨S512x1024, .bf16⟩
  | .local _ .vmem, ⟨5, _⟩ => ⟨S512x1024, .bf16⟩
  | .local _ .vmem, ⟨6, _⟩ => ⟨S512x6144, .bf16⟩
  | .local _ .vmem, ⟨7, _⟩ => ⟨S512x6144, .bf16⟩
  | .local _ .vmem, ⟨8, _⟩ => ⟨S1024x2048, .bf16⟩
  | .local _ .vmem, ⟨9, _⟩ => ⟨S768x2048, .bf16⟩
  | .local _ .vmem, ⟨10, _⟩ => ⟨S1024x2048, .bf16⟩
  | .local _ .vmem, ⟨11, _⟩ => ⟨S512x2048, .bf16⟩
  | .local _ .vmem, ⟨12, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8192x1024 : Shape := ⟨2, ![8192, 1024]⟩
abbrev S8192x768 : Shape := ⟨2, ![8192, 768]⟩
abbrev S8192x6144 : Shape := ⟨2, ![8192, 6144]⟩
abbrev S2x1024x2048 : Shape := ⟨3, ![2, 1024, 2048]⟩
abbrev S2x768x2048 : Shape := ⟨3, ![2, 768, 2048]⟩
abbrev S2x4096x1024 : Shape := ⟨3, ![2, 4096, 1024]⟩
abbrev S1x1024x2048 : Shape := ⟨3, ![1, 1024, 2048]⟩
abbrev S1024x2048 : Shape := ⟨2, ![1024, 2048]⟩
abbrev S2x4096x2048 : Shape := ⟨3, ![2, 4096, 2048]⟩
abbrev S2x4096x768 : Shape := ⟨3, ![2, 4096, 768]⟩
abbrev S1x768x2048 : Shape := ⟨3, ![1, 768, 2048]⟩
abbrev S768x2048 : Shape := ⟨2, ![768, 2048]⟩
abbrev S2x4096x3x2048 : Shape := ⟨4, ![2, 4096, 3, 2048]⟩
abbrev S_ : Shape := ⟨0, ![]⟩
abbrev S2x4096x1x2048 : Shape := ⟨4, ![2, 4096, 1, 2048]⟩
abbrev S8192x2048 : Shape := ⟨2, ![8192, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x768, .bf16⟩
  | .hbm, ⟨2, _⟩ => ⟨S8192x1024, .bf16⟩
  | .hbm, ⟨3, _⟩ => ⟨S8192x6144, .bf16⟩
  | .hbm, ⟨4, _⟩ => ⟨S2x1024x2048, .f32⟩
  | .hbm, ⟨5, _⟩ => ⟨S2x768x2048, .f32⟩
  | .hbm, ⟨6, _⟩ => ⟨S2x1024x2048, .f32⟩
  | .hbm, ⟨7, _⟩ => ⟨S8192x1024, .f32⟩
  | .hbm, ⟨8, _⟩ => ⟨S2x4096x1024, .f32⟩
  | .hbm, ⟨9, _⟩ => ⟨S1x1024x2048, .f32⟩
  | .hbm, ⟨10, _⟩ => ⟨S1024x2048, .f32⟩
  | .hbm, ⟨11, _⟩ => ⟨S2x4096x2048, .f32⟩
  | .hbm, ⟨12, _⟩ => ⟨S8192x768, .f32⟩
  | .hbm, ⟨13, _⟩ => ⟨S2x4096x768, .f32⟩
  | .hbm, ⟨14, _⟩ => ⟨S1x768x2048, .f32⟩
  | .hbm, ⟨15, _⟩ => ⟨S768x2048, .f32⟩
  | .hbm, ⟨16, _⟩ => ⟨S2x4096x2048, .f32⟩
  | .hbm, ⟨17, _⟩ => ⟨S8192x1024, .f32⟩
  | .hbm, ⟨18, _⟩ => ⟨S2x4096x1024, .f32⟩
  | .hbm, ⟨19, _⟩ => ⟨S1x1024x2048, .f32⟩
  | .hbm, ⟨20, _⟩ => ⟨S1024x2048, .f32⟩
  | .hbm, ⟨21, _⟩ => ⟨S2x4096x2048, .f32⟩
  | .hbm, ⟨22, _⟩ => ⟨S8192x6144, .f32⟩
  | .hbm, ⟨23, _⟩ => ⟨S2x4096x3x2048, .f32⟩
  | .hbm, ⟨24, _⟩ => ⟨S2x4096x3x2048, .f32⟩
  | .hbm, ⟨25, _⟩ => ⟨S2x4096x3x2048, .f32⟩
  | .hbm, ⟨26, _⟩ => ⟨S_, .f32⟩
  | .hbm, ⟨27, _⟩ => ⟨S2x4096x3x2048, .f32⟩
  | .hbm, ⟨28, _⟩ => ⟨S2x4096x3x2048, .f32⟩
  | .hbm, ⟨29, _⟩ => ⟨S_, .f32⟩
  | .hbm, ⟨30, _⟩ => ⟨S2x4096x3x2048, .f32⟩
  | .hbm, ⟨31, _⟩ => ⟨S2x4096x3x2048, .f32⟩
  | .hbm, ⟨32, _⟩ => ⟨S2x4096x1x2048, .f32⟩
  | .hbm, ⟨33, _⟩ => ⟨S2x4096x2048, .f32⟩
  | .hbm, ⟨34, _⟩ => ⟨S2x4096x2048, .f32⟩
  | .hbm, ⟨35, _⟩ => ⟨S2x4096x1x2048, .f32⟩
  | .hbm, ⟨36, _⟩ => ⟨S2x4096x2048, .f32⟩
  | .hbm, ⟨37, _⟩ => ⟨S2x4096x2048, .f32⟩
  | .hbm, ⟨38, _⟩ => ⟨S2x4096x2048, .f32⟩
  | .hbm, ⟨39, _⟩ => ⟨S2x4096x1x2048, .f32⟩
  | .hbm, ⟨40, _⟩ => ⟨S2x4096x2048, .f32⟩
  | .hbm, ⟨41, _⟩ => ⟨S2x4096x2048, .f32⟩
  | .hbm, ⟨42, _⟩ => ⟨S2x4096x2048, .f32⟩
  | .hbm, ⟨43, _⟩ => ⟨S8192x2048, .f32⟩
  | .hbm, ⟨44, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel4.lean ====
abbrev S8192x2048 : Shape := ⟨2, ![8192, 2048]⟩
abbrev S2x1x12288 : Shape := ⟨3, ![2, 1, 12288]⟩
abbrev S2x2048 : Shape := ⟨2, ![2, 2048]⟩
abbrev S2x2048x2048 : Shape := ⟨3, ![2, 2048, 2048]⟩
abbrev S1x2048 : Shape := ⟨2, ![1, 2048]⟩
abbrev S2048 : Shape := ⟨1, ![2048]⟩
abbrev S1x2048x2048 : Shape := ⟨3, ![1, 2048, 2048]⟩
abbrev S2048x2048 : Shape := ⟨2, ![2048, 2048]⟩
abbrev S2048x8192 : Shape := ⟨2, ![2048, 8192]⟩
abbrev S512x2048 : Shape := ⟨2, ![512, 2048]⟩
abbrev S1x1x2048 : Shape := ⟨3, ![1, 1, 2048]⟩
abbrev S2048x512 : Shape := ⟨2, ![2048, 512]⟩
abbrev S512 : Shape := ⟨1, ![512]⟩
abbrev S512x1 : Shape := ⟨2, ![512, 1]⟩

abbrev nBuf : Space → Nat
  | .hbm => 17
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2x1x12288, .f32⟩
  | .hbm, ⟨3, _⟩ => ⟨S2x2048, .f32⟩
  | .hbm, ⟨4, _⟩ => ⟨S2x2048, .f32⟩
  | .hbm, ⟨5, _⟩ => ⟨S2x2048x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S2048, .f32⟩
  | .hbm, ⟨10, _⟩ => ⟨S1x2048x2048, .f32⟩
  | .hbm, ⟨11, _⟩ => ⟨S2048x2048, .f32⟩
  | .hbm, ⟨12, _⟩ => ⟨S2048x2048, .bf16⟩
  | .hbm, ⟨13, _⟩ => ⟨S1x2048, .f32⟩
  | .hbm, ⟨14, _⟩ => ⟨S1x2048, .f32⟩
  | .hbm, ⟨15, _⟩ => ⟨S8192x2048, .f32⟩
  | .hbm, ⟨16, _⟩ => ⟨S2048x8192, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S1x2048, .f32⟩
  | .local _ .vmem, ⟨12, _⟩ => ⟨S2048x2048, .bf16⟩
  | .local _ .vmem, ⟨13, _⟩ => ⟨S512x2048, .f32⟩
  | .local _ .vmem, ⟨14, _⟩ => ⟨S512x2048, .f32⟩
  | .local _ .vmem, ⟨15, _⟩ => ⟨S2048x512, .bf16⟩
  | .local _ .vmem, ⟨16, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  ![v16.toNat, c0_i32_4.toNat, c4_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S8192x2048 : Shape := ⟨2, ![8192, 2048]⟩
abbrev S2x1x12288 : Shape := ⟨3, ![2, 1, 12288]⟩
abbrev S2x2048 : Shape := ⟨2, ![2, 2048]⟩
abbrev S2x2048x2048 : Shape := ⟨3, ![2, 2048, 2048]⟩
abbrev S2x4096x2048 : Shape := ⟨3, ![2, 4096, 2048]⟩
abbrev S2x1x2048 : Shape := ⟨3, ![2, 1, 2048]⟩
abbrev S1x2048x2048 : Shape := ⟨3, ![1, 2048, 2048]⟩
abbrev S2048x2048 : Shape := ⟨2, ![2048, 2048]⟩
abbrev S_ : Shape := ⟨0, ![]⟩
abbrev S1x2048 : Shape := ⟨2, ![1, 2048]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩
abbrev S2048x8192 : Shape := ⟨2, ![2048, 8192]⟩

abbrev nBuf : Space → Nat
  | .hbm => 71
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2x1x12288, .f32⟩
  | .hbm, ⟨3, _⟩ => ⟨S2x2048, .f32⟩
  | .hbm, ⟨4, _⟩ => ⟨S2x2048, .f32⟩
  | .hbm, ⟨5, _⟩ => ⟨S2x2048x2048, .f32⟩
  | .hbm, ⟨6, _⟩ => ⟨S2x4096x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S8192x2048, .f32⟩
  | .hbm, ⟨14, _⟩ => ⟨S2x4096x2048, .f32⟩
  | .hbm, ⟨15, _⟩ => ⟨S1x2048x2048, .f32⟩
  | .hbm, ⟨16, _⟩ => ⟨S2048x2048, .f32⟩
  | .hbm, ⟨17, _⟩ => ⟨S2x4096x2048, .f32⟩
  | .hbm, ⟨18, _⟩ => ⟨S_, .f32⟩
  | .hbm, ⟨19, _⟩ => ⟨S2x4096x2048, .f32⟩
  | .hbm, ⟨20, _⟩ => ⟨S2x4096x2048, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S2x4096x2048, .f32⟩
  | .hbm, ⟨25, _⟩ => ⟨S2x4096x2048, .f32⟩
  | .hbm, ⟨26, _⟩ => ⟨S2x4096x2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S2048, .f32⟩
  | .hbm, ⟨31, _⟩ => ⟨S_, .f32⟩
  | .hbm, ⟨32, _⟩ => ⟨S2x4096, .f32⟩
  | .hbm, ⟨33, _⟩ => ⟨S2x4096x1, .f32⟩
  | .hbm, ⟨34, _⟩ => ⟨S_, .f32⟩
  | .hbm, ⟨35, _⟩ => ⟨S2x4096x1, .f32⟩
  | .hbm, ⟨36, _⟩ => ⟨S2x4096x1, .f32⟩
  | .hbm, ⟨37, _⟩ => ⟨S2x4096x2048, .f32⟩
  | .hbm, ⟨38, _⟩ => ⟨S2x4096x2048, .f32⟩
  | .hbm, ⟨39, _⟩ => ⟨S2x4096x2048, .f32⟩
  | .hbm, ⟨40, _⟩ => ⟨S_, .f32⟩
  | .hbm, ⟨41, _⟩ => ⟨S2x4096, .f32⟩
  | .hbm, ⟨42, _⟩ => ⟨S2x4096x1, .f32⟩
  | .hbm, ⟨43, _⟩ => ⟨S_, .f32⟩
  | .hbm, ⟨44, _⟩ => ⟨S2x4096x1, .f32⟩
  | .hbm, ⟨45, _⟩ => ⟨S2x4096x1, .f32⟩
  | .hbm, ⟨46, _⟩ => ⟨S2x4096x2048, .f32⟩
  | .hbm, ⟨47, _⟩ => ⟨S2x4096x2048, .f32⟩
  | .hbm, ⟨48, _⟩ => ⟨S_, .f32⟩
  | .hbm, ⟨49, _⟩ => ⟨S2x4096x1, .f32⟩
  | .hbm, ⟨50, _⟩ => ⟨S2x4096x1, .f32⟩
  | .hbm, ⟨51, _⟩ => ⟨S2x4096x1, .f32⟩
  | .hbm, ⟨52, _⟩ => ⟨S2x4096x2048, .f32⟩
  | .hbm, ⟨53, _⟩ => ⟨S2x4096x2048, .f32⟩
  | .hbm, ⟨54, _⟩ => ⟨S1x1x2048, .f32⟩
  | .hbm, ⟨55, _⟩ => ⟨S2x4096x2048, .f32⟩
  | .hbm, ⟨56, _⟩ => ⟨S2x4096x2048, .f32⟩
  | .hbm, ⟨57, _⟩ => ⟨S1x1x2048, .f32⟩
  | .hbm, ⟨58, _⟩ => ⟨S2x4096x2048, .f32⟩
  | .hbm, ⟨59, _⟩ => ⟨S2x4096x2048, .f32⟩
  | .hbm, ⟨60, _⟩ => ⟨S_, .f32⟩
  | .hbm, ⟨61, _⟩ => ⟨S2x1x2048, .f32⟩
  | .hbm, ⟨62, _⟩ => ⟨S2x1x2048, .f32⟩
  | .hbm, ⟨63, _⟩ => ⟨S2x4096x2048, .f32⟩
  | .hbm, ⟨64, _⟩ => ⟨S2x4096x2048, .f32⟩
  | .hbm, ⟨65, _⟩ => ⟨S2x4096x2048, .f32⟩
  | .hbm, ⟨66, _⟩ => ⟨S2x4096x2048, .f32⟩
  | .hbm, ⟨67, _⟩ => ⟨S8192x2048, .f32⟩
  | .hbm, ⟨68, _⟩ => ⟨S8192x2048, .f32⟩
  | .hbm, ⟨69, _⟩ => ⟨S2048x8192, .f32⟩
  | .hbm, ⟨70, _⟩ => ⟨S2048x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩

abbrev nD : Nat := 1
abbrev τ : Topo := Topo.v7x

variable {F : FTy → Type} [FloatOps F]
-- ==== Kernel5.lean ====
abbrev S8192x2048 : Shape := ⟨2, ![8192, 2048]⟩
abbrev S2048x8192 : Shape := ⟨2, ![2048, 8192]⟩
abbrev S2x1x12288 : Shape := ⟨3, ![2, 1, 12288]⟩
abbrev S2x2048 : Shape := ⟨2, ![2, 2048]⟩
abbrev S1x2048 : Shape := ⟨2, ![1, 2048]⟩
abbrev S2048 : Shape := ⟨1, ![2048]⟩
abbrev S512x2048 : Shape := ⟨2, ![512, 2048]⟩
abbrev S2048x512 : Shape := ⟨2, ![2048, 512]⟩
abbrev S1x1x2048 : Shape := ⟨3, ![1, 1, 2048]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S2x1x12288, .f32⟩
  | .hbm, ⟨3, _⟩ => ⟨S2x2048, .f32⟩
  | .hbm, ⟨4, _⟩ => ⟨S2x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .f32⟩
  | .local _ .vmem, ⟨3, _⟩ => ⟨S2048x512, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8192x2048 : Shape := ⟨2, ![8192, 2048]⟩
abbrev S2048x8192 : Shape := ⟨2, ![2048, 8192]⟩
abbrev S2x1x12288 : Shape := ⟨3, ![2, 1, 12288]⟩
abbrev S2x2048 : Shape := ⟨2, ![2, 2048]⟩
abbrev S2x4096x2048 : Shape := ⟨3, ![2, 4096, 2048]⟩
abbrev S2x1x2048 : Shape := ⟨3, ![2, 1, 2048]⟩
abbrev S_ : Shape := ⟨0, ![]⟩
abbrev S1x2048 : Shape := ⟨2, ![1, 2048]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S2x1x12288, .f32⟩
  | .hbm, ⟨3, _⟩ => ⟨S2x2048, .f32⟩
  | .hbm, ⟨4, _⟩ => ⟨S2x2048, .f32⟩
  | .hbm, ⟨5, _⟩ => ⟨S2x4096x2048, .f32⟩
  | .hbm, ⟨6, _⟩ => ⟨S8192x2048, .f32⟩
  | .hbm, ⟨7, _⟩ => ⟨S2x4096x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S_, .f32⟩
  | .hbm, ⟨15, _⟩ => ⟨S2x4096x2048, .f32⟩
  | .hbm, ⟨16, _⟩ => ⟨S2x4096x2048, .f32⟩
  | .hbm, ⟨17, _⟩ => ⟨S_, .f32⟩
  | .hbm, ⟨18, _⟩ => ⟨S2x1x2048, .f32⟩
  | .hbm, ⟨19, _⟩ => ⟨S2x1x2048, .f32⟩
  | .hbm, ⟨20, _⟩ => ⟨S2x4096x2048, .f32⟩
  | .hbm, ⟨21, _⟩ => ⟨S2x4096x2048, .f32⟩
  | .hbm, ⟨22, _⟩ => ⟨S2x4096x2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S2048, .f32⟩
  | .hbm, ⟨27, _⟩ => ⟨S_, .f32⟩
  | .hbm, ⟨28, _⟩ => ⟨S2x4096, .f32⟩
  | .hbm, ⟨29, _⟩ => ⟨S2x4096x1, .f32⟩
  | .hbm, ⟨30, _⟩ => ⟨S_, .f32⟩
  | .hbm, ⟨31, _⟩ => ⟨S2x4096x1, .f32⟩
  | .hbm, ⟨32, _⟩ => ⟨S2x4096x1, .f32⟩
  | .hbm, ⟨33, _⟩ => ⟨S2x4096x2048, .f32⟩
  | .hbm, ⟨34, _⟩ => ⟨S2x4096x2048, .f32⟩
  | .hbm, ⟨35, _⟩ => ⟨S2x4096x2048, .f32⟩
  | .hbm, ⟨36, _⟩ => ⟨S_, .f32⟩
  | .hbm, ⟨37, _⟩ => ⟨S2x4096, .f32⟩
  | .hbm, ⟨38, _⟩ => ⟨S2x4096x1, .f32⟩
  | .hbm, ⟨39, _⟩ => ⟨S_, .f32⟩
  | .hbm, ⟨40, _⟩ => ⟨S2x4096x1, .f32⟩
  | .hbm, ⟨41, _⟩ => ⟨S2x4096x1, .f32⟩
  | .hbm, ⟨42, _⟩ => ⟨S2x4096x2048, .f32⟩
  | .hbm, ⟨43, _⟩ => ⟨S2x4096x2048, .f32⟩
  | .hbm, ⟨44, _⟩ => ⟨S_, .f32⟩
  | .hbm, ⟨45, _⟩ => ⟨S2x4096x1, .f32⟩
  | .hbm, ⟨46, _⟩ => ⟨S2x4096x1, .f32⟩
  | .hbm, ⟨47, _⟩ => ⟨S2x4096x1, .f32⟩
  | .hbm, ⟨48, _⟩ => ⟨S2x4096x2048, .f32⟩
  | .hbm, ⟨49, _⟩ => ⟨S2x4096x2048, .f32⟩
  | .hbm, ⟨50, _⟩ => ⟨S1x1x2048, .f32⟩
  | .hbm, ⟨51, _⟩ => ⟨S2x4096x2048, .f32⟩
  | .hbm, ⟨52, _⟩ => ⟨S2x4096x2048, .f32⟩
  | .hbm, ⟨53, _⟩ => ⟨S1x1x2048, .f32⟩
  | .hbm, ⟨54, _⟩ => ⟨S2x4096x2048, .f32⟩
  | .hbm, ⟨55, _⟩ => ⟨S2x4096x2048, .f32⟩
  | .hbm, ⟨56, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Proof.Math.lean ====
module
public import Idealize.ShloMosaic.Lib.Pointwise
public import Idealize.ShloMosaic.PureOps.Ideal.Laws
@[expose] public section
noncomputable section
open Idealize.ShloMosaic

namespace Cert.Math

/-- An extended real that is an ordinary real number. -/
def IsReal (x : EReal) : Prop := ∃ r : ℝ, x = (r : EReal)

/-- A real number, seen as an extended real, is real. -/
theorem isReal_coe (r : ℝ) : IsReal (r : EReal) := ⟨r, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, by push_cast; rfl⟩

/-- A product of two reals is real. -/
theorem IsReal.mul {x y : EReal} (hx : IsReal x) (hy : IsReal y) : IsReal (x * y) := by
  obtain ⟨a, rfl⟩ := hx; obtain ⟨b, rfl⟩ := hy; exact ⟨a * b, by push_cast; rfl⟩

/-- The negative of a real is real. -/
theorem IsReal.neg {x : EReal} (hx : IsReal x) : IsReal (-x) := by
  obtain ⟨a, rfl⟩ := hx; exact ⟨-a, by push_cast; rfl⟩

/-- A finite sum of reals is real. -/
theorem isReal_sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- A nonnegative real factor moves into a finite sum of extended reals. -/
theorem coe_mul_sum {ι : Type} (s : Finset ι) (f : ι → EReal) (c : ℝ) (hc : 0 ≤ c) :
    (c : EReal) * ∑ i ∈ s, f i = ∑ i ∈ s, (c : EReal) * f i := by
  classical
  induction s using Finset.induction_on with
  | empty => simp
  | insert a s ha ih => rw [Finset.sum_insert ha, Finset.sum_insert ha, EReal.left_distrib_of_nonneg_of_ne_top (EReal.coe_nonneg.2 hc) (EReal.coe_ne_top c), ih]

/-- A nonnegative real factor on the right moves into a finite sum of extended reals. -/
theorem sum_mul_coe {ι : Type} (s : Finset ι) (f : ι → EReal) (c : ℝ) (hc : 0 ≤ c) :
    (∑ i ∈ s, f i) * (c : EReal) = ∑ i ∈ s, f i * (c : EReal) := by
  rw [mul_comm, coe_mul_sum s f c hc]; exact Finset.sum_congr rfl fun i _ => mul_comm _ _

/-- The running maximum, from minus infinity, of finitely many (at least one) reals is real. -/
theorem isReal_foldMax {n : ℕ} (hn : 0 < n) (f : Fin n → EReal) (h : ∀ i, IsReal (f i)) :
    IsReal (Finset.univ.fold max (⊥ : EReal) f) := by
  have h1 : Finset.univ.fold max (⊥ : EReal) f ≠ ⊤ := by
    refine ne_of_lt ((Finset.fold_max_lt _).2 ⟨bot_lt_top, fun i _ => ?_⟩)
    obtain ⟨r, hr⟩ := h i; rw [hr]; exact EReal.coe_lt_top r
  have h2 : Finset.univ.fold max (⊥ : EReal) f ≠ ⊥ := by
    refine (bot_lt_iff_ne_bot.1 ((Finset.lt_fold_max _).2 (Or.inr ⟨⟨0, hn⟩, Finset.mem_univ _, ?_⟩)))
    obtain ⟨r, hr⟩ := h ⟨0, hn⟩; rw [hr]; exact EReal.bot_lt_coe r
  exact ⟨_, (EReal.coe_toReal h1 h2).symm⟩

/-- A finite sum of real numbers, each cast, is the cast of the sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih]; push_cast; rfl

/-- The exponential of a difference of reals. -/
theorem exp_sub_coe (a b : ℝ) : Ideal.exp ((a : EReal) - (b : EReal)) = ((Real.exp (a - b) : ℝ) : EReal) := by
  rw [← EReal.coe_sub]; rfl

/-- Two runs of an online softmax, the first under its own maximum and then rescaled, add up to one sum under the
    common maximum. -/
theorem rescale {n : ℕ} (s0 s1 : Fin n → ℝ) (v0 v1 : Fin n → EReal) (m0 M : ℝ) :
    Ideal.exp ((m0 : EReal) - (M : EReal)) * (∑ k, Ideal.exp ((s0 k : EReal) - (m0 : EReal)) * v0 k)
        + ∑ k, Ideal.exp ((s1 k : EReal) - (M : EReal)) * v1 k
      = (∑ k, ((Real.exp (s0 k - M) : ℝ) : EReal) * v0 k) + ∑ k, ((Real.exp (s1 k - M) : ℝ) : EReal) * v1 k := by
  simp only [exp_sub_coe]
  rw [coe_mul_sum _ _ _ (Real.exp_pos _).le]
  congr 1
  refine Finset.sum_congr rfl fun k _ => ?_
  rw [← mul_assoc, ← EReal.coe_mul, ← Real.exp_add]
  congr 3; ring

/-- A softmax-weighted sum does not depend on the shift: the sum divided at the end is the sum of the divided weights
    under another shift. -/
theorem shift {n : ℕ} (hn : 0 < n) (s : Fin n → ℝ) (v : Fin n → EReal) (M M' : ℝ) :
    Ideal.div (∑ k, ((Real.exp (s k - M) : ℝ) : EReal) * v k) (∑ k, ((Real.exp (s k - M) : ℝ) : EReal))
      = ∑ k, Ideal.div (Ideal.exp ((s k : EReal) - (M' : EReal))) (∑ j, Ideal.exp ((s j : EReal) - (M' : EReal))) * v k := by
  have hne : (Finset.univ : Finset (Fin n)).Nonempty := ⟨⟨0, hn⟩, Finset.mem_univ _⟩
  have hL : 0 < ∑ k, Real.exp (s k - M) := Finset.sum_pos (fun k _ => Real.exp_pos _) hne
  have hL' : 0 < ∑ k, Real.exp (s k - M') := Finset.sum_pos (fun k _ => Real.exp_pos _) hne
  simp only [exp_sub_coe]
  rw [coe_sum, coe_sum, Ideal.div_coe hL.ne', sum_mul_coe _ _ _ (by positivity)]
  refine Finset.sum_congr rfl fun k _ => ?_
  rw [Ideal.div_coe hL'.ne', mul_right_comm, ← EReal.coe_mul, ← EReal.coe_mul]
  congr 2
  have e : ∀ j, Real.exp (s j - M) = Real.exp (M' - M) * Real.exp (s j - M') := fun j => by
    rw [← Real.exp_add]; congr 1; ring
  rw [e k, Finset.sum_congr rfl fun j _ => e j, ← Finset.mul_sum]
  have := Real.exp_pos (M' - M)
  field_simp

/-- THE ONLINE SOFTMAX ROW: the weighted values of two halves of the keys, each half under the maximum known when it
    is read, divided at the end by the sum of the weights, is the softmax-weighted sum over all keys. -/
theorem online_row (s : Fin 4096 → EReal) (hs : ∀ k, IsReal (s k)) (v : Fin 4096 → EReal) (m0 m1 M' : EReal)
    (h0 : IsReal m0) (h1 : IsReal m1) (hM : IsReal M') (w : Fin 4096 → EReal) (hw : ∀ k, w k = 1) :
    Ideal.div
      (Ideal.exp (m0 - max m0 m1) * (∑ k : Fin 2048, Ideal.exp (s ⟨k, by omega⟩ - m0) * v ⟨k, by omega⟩)
        + ∑ k : Fin 2048, Ideal.exp (s ⟨2048 + k, by omega⟩ - max m0 m1) * v ⟨2048 + k, by omega⟩)
      (Ideal.exp (m0 - max m0 m1) * (∑ k : Fin 2048, Ideal.exp (s ⟨k, by omega⟩ - m0) * w ⟨k, by omega⟩)
        + ∑ k : Fin 2048, Ideal.exp (s ⟨2048 + k, by omega⟩ - max m0 m1) * w ⟨2048 + k, by omega⟩)
      = ∑ k, Ideal.div (Ideal.exp (s k - M')) (∑ j, Ideal.exp (s j - M')) * v k := by
  choose σ hσ using hs
  obtain ⟨a, rfl⟩ := h0; obtain ⟨b, rfl⟩ := h1; obtain ⟨c, rfl⟩ := hM
  have hm : max (a : EReal) (b : EReal) = ((max a b : ℝ) : EReal) := (EReal.coe_strictMono.monotone.map_max).symm
  simp only [hσ, hm, hw]
  have halves : ∀ f : Fin 4096 → EReal, (∑ k : Fin 2048, f ⟨k, by omega⟩) + (∑ k : Fin 2048, f ⟨2048 + k, by omega⟩) = ∑ k, f k := by
    intro f
    have := Fin.sum_univ_add (a := 2048) (b := 2048) f
    exact this.symm
  rw [rescale (fun k : Fin 2048 => σ ⟨k, by omega⟩) (fun k : Fin 2048 => σ ⟨2048 + k, by omega⟩) (fun k => v ⟨k, by omega⟩) (fun k => v ⟨2048 + k, by omega⟩) a (max a b),
    rescale (fun k : Fin 2048 => σ ⟨k, by omega⟩) (fun k : Fin 2048 => σ ⟨2048 + k, by omega⟩) (fun _ => 1) (fun _ => 1) a (max a b),
    halves (fun k => ((Real.exp (σ k - max a b) : ℝ) : EReal) * v k), halves (fun k => ((Real.exp (σ k - max a b) : ℝ) : EReal) * 1)]
  simp only [mul_one]
  exact shift (by norm_num) σ v (max a b) c

/-- A constant nonnegative real factor on the left operand leaves a contraction as a factor of the whole. -/
theorem scale_dot {n : ℕ} (q k : Fin n → EReal) (c : ℝ) (hc : 0 ≤ c) :
    ∑ d, (q d * (c : EReal)) * k d = (∑ d, q d * k d) * (c : EReal) := by
  rw [sum_mul_coe _ _ _ hc]; exact Finset.sum_congr rfl fun d _ => mul_right_comm _ _ _

end Cert.Math
end
-- ==== Proof.Form.lean ====
module
public import proofs.«01_k».proof.Proof.Math
@[expose] public section
noncomputable section
open Idealize.ShloMosaic

namespace Cert.Math

/-- The width of a head as the reference divides by it, the reciprocal as the kernel multiplies by it. -/
theorem recip128 : Ideal.ofBits FTy.bf16 15360#16 = ((1 / 128 : ℝ) : EReal) := by
  simp [Ideal.ofBits, Ideal.ieee, -EReal.coe_mul]; norm_num

/-- The constant of the reference's mean. -/
theorem c128 : Ideal.ofBits FTy.f32 0x43000000#32 = ((128 : ℝ) : EReal) := by
  simp [Ideal.ofBits, Ideal.ieee, -EReal.coe_mul]; norm_num

/-- The norm's small constant is a positive real. -/
theorem eps_pos : ∃ e : ℝ, 0 < e ∧ Ideal.ofBits FTy.f32 897988541#32 = (e : EReal) := by
  refine ⟨_, ?_, by simp [Ideal.ofBits, Ideal.ieee, -EReal.coe_mul]; rfl⟩
  norm_num

/-- The score scale is a positive real. -/
theorem scale_pos : ∃ e : ℝ, 0 < e ∧ Ideal.ofBits FTy.f32 1035273459#32 = (e : EReal) := by
  refine ⟨_, ?_, by simp [Ideal.ofBits, Ideal.ieee, -EReal.coe_mul]; rfl⟩
  norm_num

/-- The column 32 away within its half of 64. -/
def flip (j : Fin 128) : Fin 128 := ⟨j.val ^^^ 32, Nat.xor_lt_two_pow (n := 7) j.isLt (by decide)⟩

/-- A row over its root mean square, times the gain. -/
def nrm (x g : Fin 128 → EReal) (d : Fin 128) : EReal :=
  x d * Ideal.rsqrt (∑ k, x k * x k * ((1 / 128 : ℝ) : EReal) + Ideal.ofBits FTy.f32 897988541#32) * g d

/-- A row turned by the rotary tables: each column with its partner 32 away. -/
def rot (n c s : Fin 128 → EReal) (d : Fin 128) : EReal := n d * c d + n (flip d) * s d

/-- A square scaled by a positive real is nonnegative. -/
theorem sq_nonneg' (x : EReal) (c : ℝ) (hc : 0 < c) : 0 ≤ x * x * (c : EReal) := by
  induction x with
  | bot => rw [EReal.bot_mul_bot, EReal.top_mul_coe_of_pos hc]; exact le_top
  | top => rw [EReal.top_mul_top, EReal.top_mul_coe_of_pos hc]; exact le_top
  | coe r => rw [← EReal.coe_mul, ← EReal.coe_mul]; exact EReal.coe_nonneg.2 (by have := mul_self_nonneg r; positivity)

/-- The reciprocal square root of a positive real. -/
theorem rsqrt_pos {r : ℝ} (hr : 0 < r) : Ideal.rsqrt (r : EReal) = ((Real.sqrt r)⁻¹ : ℝ) := by
  show (if r < 0 then ⊥ else if r = 0 then ⊤ else (((Real.sqrt r)⁻¹ : ℝ) : EReal)) = _
  rw [if_neg (not_lt.2 hr.le), if_neg hr.ne']

/-- The norm of any row at all is real where the gain is real: if a column is infinite the root mean square is. -/
theorem nrm_real (x g : Fin 128 → EReal) (hg : ∀ d, IsReal (g d)) (d : Fin 128) : IsReal (nrm x g d) := by
  obtain ⟨e, he, hee⟩ := eps_pos
  unfold nrm
  refine IsReal.mul ?_ (hg d)
  rw [hee]
  by_cases h : ∀ k, IsReal (x k)
  · choose r hr using h
    have hs : (∑ k, x k * x k * ((1 / 128 : ℝ) : EReal)) + (e : EReal) = ((∑ k, r k * r k * (1 / 128) + e : ℝ) : EReal) := by
      rw [EReal.coe_add, ← coe_sum]
      congr 1
      refine Finset.sum_congr rfl fun k _ => ?_
      rw [hr k, EReal.coe_mul, EReal.coe_mul]
    have hp : 0 < ∑ k, r k * r k * (1 / 128) + e :=
      add_pos_of_nonneg_of_pos (Finset.sum_nonneg fun k _ => by have := mul_self_nonneg (r k); positivity) he
    rw [hs, hr d]
    refine IsReal.mul (isReal_coe _) ?_
    rw [rsqrt_pos hp]
    exact isReal_coe _
  · obtain ⟨k, hk⟩ := not_forall.1 h
    have ht : x k * x k * ((1 / 128 : ℝ) : EReal) = ⊤ := by
      induction hx : x k with
      | bot => rw [EReal.bot_mul_bot, EReal.top_mul_coe_of_pos (by norm_num)]
      | top => rw [EReal.top_mul_top, EReal.top_mul_coe_of_pos (by norm_num)]
      | coe r => exact absurd ⟨r, hx⟩ hk
    have hs : (∑ k, x k * x k * ((1 / 128 : ℝ) : EReal)) = ⊤ := by
      rw [← Finset.add_sum_erase _ _ (Finset.mem_univ k), ht]
      refine EReal.top_add_of_ne_bot (ne_of_gt (lt_of_lt_of_le EReal.bot_lt_zero ?_))
      exact Finset.sum_nonneg fun i _ => sq_nonneg' (x i) _ (by norm_num)
    rw [hs, EReal.top_add_coe]
    have h0 : Ideal.rsqrt ⊤ = 0 := rfl
    rw [h0, mul_zero]
    exact ⟨0, rfl⟩

/-- A turned row is real where the norm and the tables are. -/
theorem rot_real (n c s : Fin 128 → EReal) (hn : ∀ d, IsReal (n d)) (hc : ∀ d, IsReal (c d)) (hs : ∀ d, IsReal (s d)) (d : Fin 128) :
    IsReal (rot n c s d) := ((hn d).mul (hc d)).add ((hn _).mul (hs d))

/-- The rotary frequency of a column pair: ten thousand to the power of minus its share of 32. -/
def freq (j : ℕ) : EReal :=
  Ideal.pow (Ideal.ofBits FTy.f32 1176256512#32) (Ideal.div (-(FloatOps.sitofp (F := Ideal) FTy.f32 (BitVec.ofNat 32 j))) (Ideal.ofBits FTy.f32 1107296256#32))

/-- The rotary angle of a position at a column pair. -/
def ang (p j : ℕ) : EReal := FloatOps.sitofp (F := Ideal) FTy.f32 (BitVec.ofNat 32 p) * freq j

/-- The position a column turns by: the row of the image in the first half, the column in the second. -/
def pos (s : Fin 4096) (d : Fin 128) : ℕ := if d.val < 64 then s.val / 64 else s.val % 64

/-- The cosine table. -/
def ctab (s : Fin 4096) (d : Fin 128) : EReal := Ideal.cos (ang (pos s d) (d.val % 32))

/-- The sine table, with the sign of the turn. -/
def stab (s : Fin 4096) (d : Fin 128) : EReal :=
  if d.val % 64 < 32 then -Ideal.sin (ang (pos s d) (d.val % 32)) else Ideal.sin (ang (pos s d) (d.val % 32))

/-- A word read as a number is real. -/
theorem sitofp_real (w : BitVec 32) : IsReal (FloatOps.sitofp (F := Ideal) FTy.f32 w) := ⟨_, rfl⟩

/-- The frequency's base is real. -/
theorem base_real : IsReal (Ideal.ofBits FTy.f32 1176256512#32) := by
  refine ⟨_, by simp [Ideal.ofBits, Ideal.ieee, -EReal.coe_mul]; rfl⟩

/-- The number of column pairs, thirty-two. -/
theorem c32 : Ideal.ofBits FTy.f32 1107296256#32 = ((32 : ℝ) : EReal) := by
  simp [Ideal.ofBits, Ideal.ieee, -EReal.coe_mul]; norm_num

/-- Every angle is real. -/
theorem ang_real (p j : ℕ) : IsReal (ang p j) := by
  refine (sitofp_real _).mul ?_
  unfold freq
  obtain ⟨b, hb⟩ := base_real
  obtain ⟨n, hn⟩ := (sitofp_real (BitVec.ofNat 32 j)).neg
  rw [hb, hn, c32, Ideal.div_coe (by norm_num), ← EReal.coe_mul]
  exact ⟨Real.rpow b _, rfl⟩

/-- The cosine of a real is real. -/
theorem cos_real {x : EReal} (h : IsReal x) : IsReal (Ideal.cos x) := by
  obtain ⟨r, rfl⟩ := h; exact ⟨Real.cos r, rfl⟩

/-- The sine of a real is real. -/
theorem sin_real {x : EReal} (h : IsReal x) : IsReal (Ideal.sin x) := by
  obtain ⟨r, rfl⟩ := h; exact ⟨Real.sin r, rfl⟩

/-- The cosine table is real. -/
theorem ctab_real (s : Fin 4096) (d : Fin 128) : IsReal (ctab s d) := cos_real (ang_real _ _)

/-- The sine table is real. -/
theorem stab_real (s : Fin 4096) (d : Fin 128) : IsReal (stab s d) := by
  unfold stab; split
  · exact (sin_real (ang_real _ _)).neg
  · exact sin_real (ang_real _ _)

end Cert.Math
end
-- ==== Proof.Pay.lean ====
module
public import proofs.«01_k».proof.Proof.Form
public import proofs.«01_k».proof.Proof.Gen.KernelIdeal.Skeleton
public import Idealize.ShloMosaic.Lib.Pipeline.ValueKit
@[expose] public section
set_option maxRecDepth 16384
noncomputable section
open Idealize.ShloMosaic Idealize.ShloMosaic.TcCoe Idealize.SL.Sem
namespace Cert.KernelIdeal.MixA
open Cert.KernelIdeal Cert.KernelIdeal.Gen Cert.Math
/-- The four heads' query rows of a point, one below the other. -/
def heads (q0 q1 q2 q3 : FVec Ideal S256x128 .bf16) : FVec Ideal S1024x128 .bf16 :=
  concatenate S1024x128 0 [⟨S256x128, q0⟩, ⟨S256x128, q1⟩, ⟨S256x128, q2⟩, ⟨S256x128, q3⟩] concatenates_S256x128_S256x128_S256x128_S256x128_S1024x128_d0

/-- The scores of the rows against one half of the keys. -/
def scores (Q : FVec Ideal S1024x128 .bf16) (k : FVec Ideal S2048x128 .bf16) : FVec Ideal S1024x2048 .f32 :=
  matmul dot_S1024x128_S2048x128_S1024x2048_1_1_0_0_n_n none Q k (constant S1024x2048 .f32 0x00000000#32)

/-- The largest score of each row. -/
def top (s : FVec Ideal S1024x2048 .f32) : FVec Ideal S1024x1 .f32 :=
  shapeCast S1024x1 (multiReduction .maximumf [1] S1024 s 0xFF800000#32 reduces_S1024x2048_S1024 (.inl rfl) rfl) shapeCasts_S1024_S1024x1

/-- The values of one half weighted by the exponentials of the scores less a row maximum. -/
def half (s : FVec Ideal S1024x2048 .f32) (m : FVec Ideal S1024x1 .f32) (v : FVec Ideal S2048x256 .bf16) : FVec Ideal S1024x256 .f32 :=
  matmul dot_S1024x2048_S2048x256_S1024x256_1_0_0_1_n_n none
    (truncf .bf16 (exp (subf s (broadcastTo S1024x2048 m broadcasts_S1024x1_S1024x2048))) bitsLt_bf16_f32) v (constant S1024x256 .f32 0x00000000#32)

/-- The two halves joined: the first rescaled to the joint maximum. -/
def joined (s0 s1 : FVec Ideal S1024x2048 .f32) (v0 v1 : FVec Ideal S2048x256 .bf16) : FVec Ideal S1024x256 .f32 :=
  addf (mulf (broadcastTo S1024x256 (exp (subf (top s0) (maximumf (top s0) (top s1)))) broadcasts_S1024x1_S1024x256) (half s0 (top s0) v0))
    (half s1 (maximumf (top s0) (top s1)) v1)

/-- The rows' accumulator at a point is the join over the two halves of the keys. -/
theorem acc_eq (c s : FVec Ideal S256x128 .f32) (g : FVec Ideal S1x128 .f32) (q0 q1 q2 : FVec Ideal S256x128 .bf16) (x : Vec Ideal S256x128 .bf16)
    (k0 k1 : FVec Ideal S2048x128 .bf16) (v0 v1 : FVec Ideal S2048x256 .bf16) :
    k0_pay24 (F := Ideal) c s g q0 q1 q2 (k0_pay20 x) k0_pay21 k0_pay22 (k0_pay23 x) (constant S256x128 .f32 0x00000000#32) k0 k1 v0 v1
      = joined (scores (heads q0 q1 q2 (k0_pay17 c s g (k0_pay20 x) k0_pay15 k0_pay16)) k0)
          (scores (heads q0 q1 q2 (k0_pay17 c s g (k0_pay20 x) k0_pay15 k0_pay16)) k1) v0 v1 := rfl

/-- The second head's queries are prepared as the first's. -/
theorem pay18_eq (a b : FVec Ideal S256x128 .f32) (g : FVec Ideal S1x128 .f32) (x : Vec Ideal S256x128 .bf16) :
    k0_pay18 (F := Ideal) a b g x = k0_pay17 a b g (k0_pay20 x) k0_pay15 k0_pay16 := rfl

/-- The third head's queries are prepared as the first's. -/
theorem pay19_eq (a b : FVec Ideal S256x128 .f32) (g : FVec Ideal S1x128 .f32) (x : Vec Ideal S256x128 .bf16) :
    k0_pay19 (F := Ideal) a b g x = k0_pay17 a b g (k0_pay20 x) k0_pay15 k0_pay16 := rfl

/-- A score is the product of a query row and a key row. -/
theorem scores_at (Q : FVec Ideal S1024x128 .bf16) (k : FVec Ideal S2048x128 .bf16) (r : Fin 1024) (j : Fin 2048) :
    scores Q k (ix2 r j) = ∑ d, Q (ix2 r d) * k (ix2 j d) := by
  pointwise [scores]

/-- The maximum starts from minus infinity. -/
theorem negInf : Ideal.ofBits FTy.f32 4286578688#32 = (⊥ : EReal) := by
  simp [Ideal.ofBits, Ideal.ieee]

/-- The largest score of a row, as a running maximum from minus infinity. -/
theorem top_at (s : FVec Ideal S1024x2048 .f32) (r : Fin 1024) :
    top s (ix2 r 0) = Finset.univ.fold max (⊥ : EReal) fun k : Fin 2048 => s (ix2 r k) := by
  pointwise [top]
  rw [negInf]

/-- The weighted values of one half, at an index. -/
theorem half_at (s : FVec Ideal S1024x2048 .f32) (m : FVec Ideal S1024x1 .f32) (v : FVec Ideal S2048x256 .bf16) (r : Fin 1024) (j : Fin 256) :
    half s m v (ix2 r j) = ∑ k : Fin 2048, Ideal.exp (s (ix2 r k) - m (ix2 r 0)) * v (ix2 k j) := by
  pointwise [half]

/-- A column laid over the accumulator's columns. -/
theorem bc_at (e : FVec Ideal S1024x1 .f32) (r : Fin 1024) (j : Fin 256) :
    broadcastTo S1024x256 e broadcasts_S1024x1_S1024x256 (ix2 r j) = e (ix2 r 0) := by
  pointwise

/-- The rescaling factor of the first half. -/
theorem ex_at (m0 m1 : FVec Ideal S1024x1 .f32) (r : Fin 1024) :
    (exp (subf m0 (maximumf m0 m1)) : FVec Ideal S1024x1 .f32) (ix2 r 0) = Ideal.exp (m0 (ix2 r 0) - max (m0 (ix2 r 0)) (m1 (ix2 r 0))) := by
  pointwise

/-- The joint maximum at an index. -/
theorem mx_at (m0 m1 : FVec Ideal S1024x1 .f32) (r : Fin 1024) :
    (maximumf m0 m1 : FVec Ideal S1024x1 .f32) (ix2 r 0) = max (m0 (ix2 r 0)) (m1 (ix2 r 0)) := by
  pointwise

/-- A product and a sum at an index. -/
theorem am_at (a b c : FVec Ideal S1024x256 .f32) (r : Fin 1024) (j : Fin 256) :
    (addf (mulf a b) c : FVec Ideal S1024x256 .f32) (ix2 r j) = a (ix2 r j) * b (ix2 r j) + c (ix2 r j) := by
  pointwise

/-- The joined accumulator at an index. -/
theorem joined_at (s0 s1 : FVec Ideal S1024x2048 .f32) (v0 v1 : FVec Ideal S2048x256 .bf16) (r : Fin 1024) (j : Fin 256) :
    joined s0 s1 v0 v1 (ix2 r j) = Ideal.exp (top s0 (ix2 r 0) - max (top s0 (ix2 r 0)) (top s1 (ix2 r 0))) * (∑ k : Fin 2048, Ideal.exp (s0 (ix2 r k) - top s0 (ix2 r 0)) * v0 (ix2 k j))
      + ∑ k : Fin 2048, Ideal.exp (s1 (ix2 r k) - max (top s0 (ix2 r 0)) (top s1 (ix2 r 0))) * v1 (ix2 k j) := by
  unfold joined
  rw [am_at, bc_at, ex_at, half_at, half_at, mx_at]

/-- The first head's rows among the point's rows. -/
theorem heads_at0 (q0 q1 q2 q3 : FVec Ideal S256x128 .bf16) (i : Fin 256) (d : Fin 128) :
    heads q0 q1 q2 q3 (ix2 ⟨i.val, by have := i.isLt; omega⟩ d) = q0 (ix2 i d) := by
  pointwise [heads]

/-- The second head's. -/
theorem heads_at1 (q0 q1 q2 q3 : FVec Ideal S256x128 .bf16) (i : Fin 256) (d : Fin 128) :
    heads q0 q1 q2 q3 (ix2 ⟨256 + i.val, by have := i.isLt; omega⟩ d) = q1 (ix2 i d) := by
  pointwise [heads]

/-- The third head's. -/
theorem heads_at2 (q0 q1 q2 q3 : FVec Ideal S256x128 .bf16) (i : Fin 256) (d : Fin 128) :
    heads q0 q1 q2 q3 (ix2 ⟨512 + i.val, by have := i.isLt; omega⟩ d) = q2 (ix2 i d) := by
  pointwise [heads]
  rw [dif_neg (by omega), dif_neg (by omega), dif_pos (by omega)]
  congr 2; exact Fin.ext (by show 512 + i.val - 256 - 256 = i.val; omega)

/-- The fourth head's. -/
theorem heads_at3 (q0 q1 q2 q3 : FVec Ideal S256x128 .bf16) (i : Fin 256) (d : Fin 128) :
    heads q0 q1 q2 q3 (ix2 ⟨768 + i.val, by have := i.isLt; omega⟩ d) = q3 (ix2 i d) := by
  pointwise [heads]
  rw [dif_neg (by omega), dif_neg (by omega), dif_neg (by omega)]
  congr 2; exact Fin.ext (by show 768 + i.val - 256 - 256 - 256 = i.val; omega)

/-- Exclusive or with 32 is the flip, as words. -/
theorem xor_flip : ∀ j : Fin 128, IntOp.xori (BitVec.ofNat 32 ↑j) 32#32 = BitVec.ofNat 32 (flip j).val := by
  decide +kernel

/-- The permutation's comparison chooses on `i = flip j`. -/
theorem select_flip {α : Type} (i j : Fin 128) (a b : α) :
    Scalar.select (IntOp.cmpi CmpIPredicate.eq (BitVec.ofNat 32 ↑i) (IntOp.xori (BitVec.ofNat 32 ↑j) 32#32)) a b = if i = flip j then a else b := by
  rw [xor_flip]
  have h : (BitVec.ofNat 32 i.val = BitVec.ofNat 32 (flip j).val) ↔ i = flip j := by
    constructor
    · intro h
      have := congrArg BitVec.toNat h
      have h1 := i.isLt; have h2 := (flip j).isLt
      simp only [BitVec.toNat_ofNat] at this
      apply Fin.ext; omega
    · rintro h; rw [h]
  by_cases e : i = flip j
  · simp [e, Scalar.select, IntOp.cmpi]
  · have e' : (BitVec.ofNat 32 i.val == BitVec.ofNat 32 (flip j).val) = false := by simpa using mt h.1 e
    rw [if_neg e]
    simp only [Scalar.select, IntOp.cmpi, e']
    rfl

/-- The permutation matrix at an index. -/
theorem p16 (i j : Fin 128) : k0_pay16 (F := Ideal) (ix2 i j) = if i = flip j then 1 else 0 := by
  pointwise [k0_pay16]
  exact select_flip _ _ _ _

/-- The averaging matrix at an index. -/
theorem p15 (i j : Fin 128) : k0_pay15 (F := Ideal) (ix2 i j) = ((1 / 128 : ℝ) : EReal) := by
  pointwise [k0_pay15]
  exact recip128

/-- A head's prepared query rows, over any averaging and permutation matrices. -/
theorem p17 (c s : FVec Ideal S256x128 .f32) (g : FVec Ideal S1x128 .f32) (x : FVec Ideal S256x128 .f32) (m p : FVec Ideal S128x128 .bf16)
    (i : Fin 256) (j : Fin 128) : k0_pay17 (F := Ideal) c s g x m p (ix2 i j) =
      (x (ix2 i j) * Ideal.rsqrt (∑ k, x (ix2 i k) * x (ix2 i k) * m (ix2 k j) + Ideal.ofBits FTy.f32 897988541#32) * g (ix2 0 j) * c (ix2 i j)
        + (∑ l, x (ix2 i l) * Ideal.rsqrt (∑ k, x (ix2 i k) * x (ix2 i k) * m (ix2 k l) + Ideal.ofBits FTy.f32 897988541#32) * g (ix2 0 l) * p (ix2 l j)) * s (ix2 i j))
      * Ideal.ofBits FTy.f32 1035273459#32 := by
  pointwise [k0_pay17]

/-- A head's prepared query rows: the norm, turned, scaled. -/
theorem query_at (c s : FVec Ideal S256x128 .f32) (g : FVec Ideal S1x128 .f32) (x : Vec Ideal S256x128 .bf16) (i : Fin 256) (j : Fin 128) :
    k0_pay17 (F := Ideal) c s g (k0_pay20 x) k0_pay15 k0_pay16 (ix2 i j)
      = rot (nrm (fun d => x (ix2 i d)) fun d => g (ix2 0 d)) (fun d => c (ix2 i d)) (fun d => s (ix2 i d)) j * Ideal.ofBits FTy.f32 1035273459#32 := by
  rw [p17]
  simp only [p15, p16, mul_ite, mul_one, mul_zero, Finset.sum_ite_eq', Finset.mem_univ, if_true]
  rfl

/-- The prepared key rows: the norm, turned. -/
theorem key_at (x : Vec Ideal S4096x128 .bf16) (g : Vec Ideal S1x128 .f32) (c s : Vec Ideal S4096x128 .f32) (i : Fin 4096) (j : Fin 128) :
    k0_pay6 (F := Ideal) x g c s (ix2 i j)
      = rot (nrm (fun d => x (ix2 i d)) fun d => g (ix2 0 d)) (fun d => c (ix2 i d)) (fun d => s (ix2 i d)) j := by
  pointwise [k0_pay6]
  simp only [select_flip, Finset.sum_ite_eq', Finset.mem_univ, if_true, recip128]
  rfl

/-- The quotient of the accumulator's value columns by its column of weights. -/
theorem p1 (a : FVec Ideal S1024x256 .f32) (b : FVec Ideal S1024x128 .f32) (i : Fin 1024) (j : Fin 128) :
    k0_pay1 (F := Ideal) a b (ix2 i j) = Ideal.div (b (ix2 i j)) (a (ix2 i 128)) := by
  pointwise [k0_pay1]

/-- The value columns of the accumulator. -/
theorem p25 (a : FVec Ideal S1024x256 .f32) (i : Fin 1024) (j : Fin 128) :
    (extractStridedSlice S1024x128 ![0, 0] a slices_S1024x256_o0_0_S1024x128 : FVec Ideal S1024x128 .f32) (ix2 i j) = a (ix2 i ⟨j.val, by have := j.isLt; omega⟩) := by
  pointwise

/-- A row of the quotient is the softmax of its scores applied to the values, whatever real the reference subtracts. -/
theorem row_at (Q : FVec Ideal S1024x128 .bf16) (k0 k1 : FVec Ideal S2048x128 .bf16) (v0 v1 : FVec Ideal S2048x256 .bf16)
    (r : Fin 1024) (j : Fin 128) (K : Fin 4096 → Fin 128 → EReal) (V : Fin 4096 → EReal) (M : EReal) (hM : IsReal M)
    (hk0 : ∀ (k : Fin 2048) (d : Fin 128), k0 (ix2 k d) = K ⟨k.val, by have := k.isLt; omega⟩ d)
    (hk1 : ∀ (k : Fin 2048) (d : Fin 128), k1 (ix2 k d) = K ⟨2048 + k.val, by have := k.isLt; omega⟩ d)
    (hv0 : ∀ k : Fin 2048, v0 (ix2 k ⟨j.val, by have := j.isLt; omega⟩) = V ⟨k.val, by have := k.isLt; omega⟩)
    (hv1 : ∀ k : Fin 2048, v1 (ix2 k ⟨j.val, by have := j.isLt; omega⟩) = V ⟨2048 + k.val, by have := k.isLt; omega⟩)
    (ho0 : ∀ k : Fin 2048, v0 (ix2 k 128) = 1) (ho1 : ∀ k : Fin 2048, v1 (ix2 k 128) = 1)
    (hs : ∀ k, IsReal (∑ d, Q (ix2 r d) * K k d)) :
    k0_pay1 (F := Ideal) (joined (scores Q k0) (scores Q k1) v0 v1)
        (extractStridedSlice S1024x128 ![0, 0] (joined (scores Q k0) (scores Q k1) v0 v1) slices_S1024x256_o0_0_S1024x128) (ix2 r j)
      = ∑ k, Ideal.div (Ideal.exp ((∑ d, Q (ix2 r d) * K k d) - M)) (∑ l, Ideal.exp ((∑ d, Q (ix2 r d) * K l d) - M)) * V k := by
  have e0 : ∀ k : Fin 2048, scores Q k0 (ix2 r k) = ∑ d, Q (ix2 r d) * K ⟨k.val, by have := k.isLt; omega⟩ d := fun k => by
    rw [scores_at]; exact Finset.sum_congr rfl fun d _ => by rw [hk0]
  have e1 : ∀ k : Fin 2048, scores Q k1 (ix2 r k) = ∑ d, Q (ix2 r d) * K ⟨2048 + k.val, by have := k.isLt; omega⟩ d := fun k => by
    rw [scores_at]; exact Finset.sum_congr rfl fun d _ => by rw [hk1]
  have m0 : IsReal (top (scores Q k0) (ix2 r 0)) := by
    rw [top_at]; exact isReal_foldMax (by norm_num) _ fun k => by rw [e0]; exact hs _
  have m1 : IsReal (top (scores Q k1) (ix2 r 0)) := by
    rw [top_at]; exact isReal_foldMax (by norm_num) _ fun k => by rw [e1]; exact hs _
  rw [p1, p25, joined_at, joined_at]
  simp only [e0, e1, hv0, hv1, ho0, ho1]
  exact online_row (fun k => ∑ d, Q (ix2 r d) * K k d) hs V _ _ M m0 m1 hM (fun _ => 1) fun _ => rfl

end Cert.KernelIdeal.MixA
-- ==== Proof.Tab.lean ====
module
public import proofs.«01_k».proof.Proof.Form
public import proofs.«01_k».proof.Proof.Gen.KernelIdeal.Value
public import Idealize.ShloMosaic.Lib.Pipeline.ValueKit
public import Idealize.ShloMosaic.Lib.StableHlo.RunRead
@[expose] public section
set_option maxRecDepth 16384
noncomputable section
open Idealize.ShloMosaic Idealize.ShloMosaic.TcCoe Idealize.SL.Sem
namespace Cert.KernelIdeal.MixA
open Cert.KernelIdeal Cert.KernelIdeal.Gen Cert.Math
variable (m : (ℓ : Loc nD τ sig) → Buf (Elt Ideal) ℓ)

/-- Four tables of 32 columns side by side, read at a column. -/
theorem cat_at (a b c d : FVec Ideal S4096x32 .f32) (f : Fin 4096 → Fin 128 → EReal)
    (ha : ∀ (s : Fin 4096) (j : Fin 32), a (ix2 s j) = f s ⟨j.val, by have := j.isLt; omega⟩)
    (hb : ∀ (s : Fin 4096) (j : Fin 32), b (ix2 s j) = f s ⟨32 + j.val, by have := j.isLt; omega⟩)
    (hc : ∀ (s : Fin 4096) (j : Fin 32), c (ix2 s j) = f s ⟨64 + j.val, by have := j.isLt; omega⟩)
    (hd : ∀ (s : Fin 4096) (j : Fin 32), d (ix2 s j) = f s ⟨96 + j.val, by have := j.isLt; omega⟩) (s : Fin 4096) (x : Fin 128) :
    concatenate S4096x128 1 [⟨S4096x32, a⟩, ⟨S4096x32, b⟩, ⟨S4096x32, c⟩, ⟨S4096x32, d⟩]
      concatenates_S4096x32_S4096x32_S4096x32_S4096x32_S4096x128_d1 (ix2 s x) = f s x := by
  pointwise
  by_cases h1 : x.val < 32
  · rw [dif_pos h1]; exact ha s ⟨x.val, h1⟩
  rw [dif_neg h1]
  by_cases h2 : x.val - 32 < 32
  · rw [dif_pos h2]; exact (hb s ⟨x.val - 32, h2⟩).trans (congrArg (f s) (Fin.ext (by show 32 + (x.val - 32) = x.val; omega)))
  rw [dif_neg h2]
  by_cases h3 : x.val - 32 - 32 < 32
  · rw [dif_pos h3]; exact (hc s ⟨x.val - 32 - 32, h3⟩).trans (congrArg (f s) (Fin.ext (by show 64 + (x.val - 32 - 32) = x.val; omega)))
  rw [dif_neg h3]
  have := x.isLt
  exact (hd s ⟨x.val - 32 - 32 - 32, by omega⟩).trans (congrArg (f s) (Fin.ext (by show 96 + (x.val - 32 - 32 - 32) = x.val; omega)))

/-- The host's buffers before the last tables are joined. -/
abbrev U (n : ℕ) (c : Dev nD) (b : Ref sig .tc) := StableHlo.upto (hostOps0 (F := Ideal)) (fun b => m (c, b)) n (Proc.tc.devRef b)

/-- Cosine of the row angles, first piece. -/
theorem u23 (c : Dev nD) (s : Fin 4096) (j : Fin 32) : (U m 29 c main_v23 : FVec Ideal S4096x32 .f32) (ix2 s j) = Ideal.cos (ang (s.val / 64) j.val) := by
  after_reads_simp
  pointwise [ang, freq]

/-- Cosine of the row angles, second piece. -/
theorem u24 (c : Dev nD) (s : Fin 4096) (j : Fin 32) : (U m 29 c main_v24 : FVec Ideal S4096x32 .f32) (ix2 s j) = Ideal.cos (ang (s.val / 64) j.val) := by
  after_reads_simp
  pointwise [ang, freq]

/-- Cosine of the column angles, third piece. -/
theorem u25 (c : Dev nD) (s : Fin 4096) (j : Fin 32) : (U m 29 c main_v25 : FVec Ideal S4096x32 .f32) (ix2 s j) = Ideal.cos (ang (s.val % 64) j.val) := by
  after_reads_simp
  pointwise [ang, freq]

/-- Cosine of the column angles, fourth piece. -/
theorem u26 (c : Dev nD) (s : Fin 4096) (j : Fin 32) : (U m 29 c main_v26 : FVec Ideal S4096x32 .f32) (ix2 s j) = Ideal.cos (ang (s.val % 64) j.val) := by
  after_reads_simp
  pointwise [ang, freq]

/-- Minus sine of the row angles. -/
theorem u29 (c : Dev nD) (s : Fin 4096) (j : Fin 32) : (U m 36 c main_v29 : FVec Ideal S4096x32 .f32) (ix2 s j) = -Ideal.sin (ang (s.val / 64) j.val) := by
  after_reads_simp
  pointwise [ang, freq]

/-- Sine of the row angles. -/
theorem u30 (c : Dev nD) (s : Fin 4096) (j : Fin 32) : (U m 36 c main_v30 : FVec Ideal S4096x32 .f32) (ix2 s j) = Ideal.sin (ang (s.val / 64) j.val) := by
  after_reads_simp
  pointwise [ang, freq]

/-- Minus sine of the column angles. -/
theorem u32 (c : Dev nD) (s : Fin 4096) (j : Fin 32) : (U m 36 c main_v32 : FVec Ideal S4096x32 .f32) (ix2 s j) = -Ideal.sin (ang (s.val % 64) j.val) := by
  after_reads_simp
  pointwise [ang, freq]

/-- Sine of the column angles. -/
theorem u33 (c : Dev nD) (s : Fin 4096) (j : Fin 32) : (U m 36 c main_v33 : FVec Ideal S4096x32 .f32) (ix2 s j) = Ideal.sin (ang (s.val % 64) j.val) := by
  after_reads_simp
  pointwise [ang, freq]

/-- The cosine table the host computes. -/
theorem cos_table (c : Dev nD) (s : Fin 4096) (d : Fin 128) : (V m c main_v27 : FVec Ideal S4096x128 .f32) (ix2 s d) = ctab s d := by
  after_reads_simp
  refine cat_at _ _ _ _ ctab ?_ ?_ ?_ ?_ s d <;> intro s j <;> have := j.isLt
  · rw [show ctab s ⟨j.val, by omega⟩ = Ideal.cos (ang (s.val / 64) j.val) by
      unfold ctab pos; rw [if_pos (show j.val < 64 by omega), Nat.mod_eq_of_lt this]]
    exact u23 m c s j
  · rw [show ctab s ⟨32 + j.val, by omega⟩ = Ideal.cos (ang (s.val / 64) j.val) by
      unfold ctab pos; rw [if_pos (show 32 + j.val < 64 by omega), show (32 + j.val) % 32 = j.val by omega]]
    exact u24 m c s j
  · rw [show ctab s ⟨64 + j.val, by omega⟩ = Ideal.cos (ang (s.val % 64) j.val) by
      unfold ctab pos; rw [if_neg (show ¬64 + j.val < 64 by omega), show (64 + j.val) % 32 = j.val by omega]]
    exact u25 m c s j
  · rw [show ctab s ⟨96 + j.val, by omega⟩ = Ideal.cos (ang (s.val % 64) j.val) by
      unfold ctab pos; rw [if_neg (show ¬96 + j.val < 64 by omega), show (96 + j.val) % 32 = j.val by omega]]
    exact u26 m c s j

/-- The signed sine table the host computes. -/
theorem sin_table (c : Dev nD) (s : Fin 4096) (d : Fin 128) : (V m c main_v34 : FVec Ideal S4096x128 .f32) (ix2 s d) = stab s d := by
  after_reads_simp
  refine cat_at _ _ _ _ stab ?_ ?_ ?_ ?_ s d <;> intro s j <;> have := j.isLt
  · rw [show stab s ⟨j.val, by omega⟩ = -Ideal.sin (ang (s.val / 64) j.val) by
      unfold stab pos; rw [if_pos (show j.val % 64 < 32 by omega), if_pos (show j.val < 64 by omega), Nat.mod_eq_of_lt this]]
    exact u29 m c s j
  · rw [show stab s ⟨32 + j.val, by omega⟩ = Ideal.sin (ang (s.val / 64) j.val) by
      unfold stab pos; rw [if_neg (show ¬(32 + j.val) % 64 < 32 by omega), if_pos (show 32 + j.val < 64 by omega), show (32 + j.val) % 32 = j.val by omega]]
    exact u30 m c s j
  · rw [show stab s ⟨64 + j.val, by omega⟩ = -Ideal.sin (ang (s.val % 64) j.val) by
      unfold stab pos; rw [if_pos (show (64 + j.val) % 64 < 32 by omega), if_neg (show ¬64 + j.val < 64 by omega), show (64 + j.val) % 32 = j.val by omega]]
    exact u32 m c s j
  · rw [show stab s ⟨96 + j.val, by omega⟩ = Ideal.sin (ang (s.val % 64) j.val) by
      unfold stab pos; rw [if_neg (show ¬(96 + j.val) % 64 < 32 by omega), if_neg (show ¬96 + j.val < 64 by omega), show (96 + j.val) % 32 = j.val by omega]]
    exact u33 m c s j

/-- The query gain as a row. -/
theorem qgain (c : Dev nD) (d : Fin 128) : (V m c main_v35 : FVec Ideal S1x128 .f32) (ix2 0 d) = (m ((c : Thread nD τ).loc main_arg1) : FVec Ideal S128 .f32) (ix1 d) := by
  entry_read
  pointwise

/-- The key gain as a row. -/
theorem kgain (c : Dev nD) (d : Fin 128) : (V m c main_v36 : FVec Ideal S1x128 .f32) (ix2 0 d) = (m ((c : Thread nD τ).loc main_arg2) : FVec Ideal S128 .f32) (ix1 d) := by
  entry_read
  pointwise
end Cert.KernelIdeal.MixA
-- ==== Proof.Tile.lean ====
module
public import proofs.«01_k».proof.Proof.Pay
public import proofs.«01_k».proof.Proof.Tab
public import proofs.«01_k».proof.Proof.Gen.KernelIdeal.Value
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.KernelIdeal.MixA
open Cert.KernelIdeal Cert.KernelIdeal.Gen Cert.Math

/-- The prepared query rows of one head of a point. -/
def prep (c s : FVec Ideal S256x128 .f32) (g : FVec Ideal S1x128 .f32) (x : Vec Ideal S256x128 .bf16) : FVec Ideal S256x128 .bf16 :=
  k0_pay17 c s g (k0_pay20 x) k0_pay15 k0_pay16

/-- The accumulator of a point, from its four heads' columns and the two halves of keys and values. -/
def acc (c s : FVec Ideal S256x128 .f32) (g : FVec Ideal S1x128 .f32) (x0 x1 x2 x3 : Vec Ideal S256x128 .bf16)
    (k0 k1 : FVec Ideal S2048x128 .bf16) (v0 v1 : FVec Ideal S2048x256 .bf16) : FVec Ideal S1024x256 .f32 :=
  joined (scores (heads (prep c s g x0) (prep c s g x1) (prep c s g x2) (prep c s g x3)) k0)
    (scores (heads (prep c s g x0) (prep c s g x1) (prep c s g x2) (prep c s g x3)) k1) v0 v1

/-- The quotient of an accumulator. -/
def quo (a : FVec Ideal S1024x256 .f32) : FVec Ideal S1024x128 .f32 :=
  k0_pay1 a (extractStridedSlice S1024x128 ![0, 0] a slices_S1024x256_o0_0_S1024x128)

/-- The four heads' rows of the quotient laid side by side. -/
def side (a : FVec Ideal S1024x256 .f32) : FVec Ideal S256x512 .bf16 :=
  fun y => quo a (ix2 ⟨(y 1).val / 128 * 256 + (y 0).val, by have := (y 1).isLt; have := (y 0).isLt; change (y 1).val < 512 at *; change (y 0).val < 256 at *; omega⟩
    ⟨(y 1).val % 128, Nat.mod_lt _ (by norm_num)⟩)

/-- The side of one head's rows, from the row and column inside the head. -/
theorem side_at (a : FVec Ideal S1024x256 .f32) (y0 : Fin 256) (y1 : Fin 512) (i : Fin 256) (j : Fin 128) (h : Fin 4)
    (h0 : y0.val = i.val) (h1 : y1.val = h.val * 128 + j.val) :
    quo a (ix2 ⟨h.val * 256 + i.val, by have := i.isLt; have := h.isLt; omega⟩ j) = side a (ix2 y0 y1) := by
  unfold side
  have := j.isLt
  refine congrArg (quo a) (congr (congrArg ix2 (Fin.ext ?_)) (Fin.ext ?_))
  · show h.val * 256 + i.val = y1.val / 128 * 256 + y0.val
    have : y1.val / 128 = h.val := by omega
    rw [this, h0]
  · show j.val = y1.val % 128
    omega

/-- The first head's store is its rows of the quotient. -/
theorem p2 (a : FVec Ideal S1024x256 .f32) (b : FVec Ideal S1024x128 .f32) (i : Fin 256) (j : Fin 128) :
    k0_pay2 (F := Ideal) a b (ix2 i j) = k0_pay1 a b (ix2 ⟨(0 : Fin 4).val * 256 + i.val, by have := i.isLt; have := (0 : Fin 4).isLt; omega⟩ j) := by
  pointwise [k0_pay2]

/-- The second head's store is its rows of the quotient. -/
theorem p3 (a : FVec Ideal S1024x256 .f32) (b : FVec Ideal S1024x128 .f32) (i : Fin 256) (j : Fin 128) :
    k0_pay3 (F := Ideal) a b (ix2 i j) = k0_pay1 a b (ix2 ⟨(1 : Fin 4).val * 256 + i.val, by have := i.isLt; have := (1 : Fin 4).isLt; omega⟩ j) := by
  pointwise [k0_pay3]

/-- The third head's store is its rows of the quotient. -/
theorem p4 (a : FVec Ideal S1024x256 .f32) (b : FVec Ideal S1024x128 .f32) (i : Fin 256) (j : Fin 128) :
    k0_pay4 (F := Ideal) a b (ix2 i j) = k0_pay1 a b (ix2 ⟨(2 : Fin 4).val * 256 + i.val, by have := i.isLt; have := (2 : Fin 4).isLt; omega⟩ j) := by
  pointwise [k0_pay4]

/-- The fourth head's store is its rows of the quotient. -/
theorem p5 (a : FVec Ideal S1024x256 .f32) (b : FVec Ideal S1024x128 .f32) (i : Fin 256) (j : Fin 128) :
    k0_pay5 (F := Ideal) a b (ix2 i j) = k0_pay1 a b (ix2 ⟨(3 : Fin 4).val * 256 + i.val, by have := i.isLt; have := (3 : Fin 4).isLt; omega⟩ j) := by
  pointwise [k0_pay5]

/-- The stores of a point make its tile. -/
theorem tile_eq (a : FVec Ideal S1024x256 .f32) :
    View.canon (Val := Elt Ideal) (s := S256x512) (e := .bf16)
      [⟨Rect.unit ![0, 384] ![256, 128] inb_S256x512_S256x128_0_384, k0_pay5 a (extractStridedSlice S1024x128 ![0, 0] a slices_S1024x256_o0_0_S1024x128)⟩,
       ⟨Rect.unit ![0, 256] ![256, 128] inb_S256x512_S256x128_0_256, k0_pay4 a (extractStridedSlice S1024x128 ![0, 0] a slices_S1024x256_o0_0_S1024x128)⟩,
       ⟨Rect.unit ![0, 128] ![256, 128] inb_S256x512_S256x128_0_128, k0_pay3 a (extractStridedSlice S1024x128 ![0, 0] a slices_S1024x256_o0_0_S1024x128)⟩,
       ⟨Rect.unit ![0, 0] ![256, 128] inb_S256x512_S256x128_0_0, k0_pay2 a (extractStridedSlice S1024x128 ![0, 0] a slices_S1024x256_o0_0_S1024x128)⟩] = side a := by
  funext y
  idx_vars y
  canon_tiles x h
  · idx_vars x
    change y1.val = 384 + x1.val at h1
    exact (p5 a _ x0 x1).trans (side_at a y0 y1 x0 x1 3 h0 (by omega))
  · idx_vars x
    change y1.val = 256 + x1.val at h1
    exact (p4 a _ x0 x1).trans (side_at a y0 y1 x0 x1 2 h0 (by omega))
  · idx_vars x
    change y1.val = 128 + x1.val at h1
    exact (p3 a _ x0 x1).trans (side_at a y0 y1 x0 x1 1 h0 (by omega))
  · idx_vars x
    change y1.val = x1.val at h1
    exact (p2 a _ x0 x1).trans (side_at a y0 y1 x0 x1 0 h0 (by omega))

/-- The accumulator as the point's text has it. -/
def acc24 (c s : Vec Ideal S256x128 .f32) (g : Vec Ideal S1x128 .f32) (x0 x1 x2 x3 : Vec Ideal S256x128 .bf16)
    (k0 k1 : FVec Ideal S2048x128 .bf16) (v0 v1 : FVec Ideal S2048x256 .bf16) : FVec Ideal S1024x256 .f32 :=
  k0_pay24 (k0_pay11 c) (k0_pay12 s) (k0_pay13 g) (k0_pay17 (k0_pay11 c) (k0_pay12 s) (k0_pay13 g) (k0_pay14 x0) k0_pay15 k0_pay16)
      (k0_pay18 (k0_pay11 c) (k0_pay12 s) (k0_pay13 g) x1) (k0_pay19 (k0_pay11 c) (k0_pay12 s) (k0_pay13 g) x2) (k0_pay20 x3) k0_pay21 k0_pay22 (k0_pay23 x3)
      (constant S256x128 FTy.f32 0#32) k0 k1 v0 v1

/-- Its value columns as the point's text has them. -/
def acc25 (c s : Vec Ideal S256x128 .f32) (g : Vec Ideal S1x128 .f32) (x0 x1 x2 x3 : Vec Ideal S256x128 .bf16)
    (k0 k1 : FVec Ideal S2048x128 .bf16) (v0 v1 : FVec Ideal S2048x256 .bf16) : FVec Ideal S1024x128 .f32 :=
  k0_pay25 (k0_pay11 c) (k0_pay12 s) (k0_pay13 g) (k0_pay17 (k0_pay11 c) (k0_pay12 s) (k0_pay13 g) (k0_pay14 x0) k0_pay15 k0_pay16)
      (k0_pay18 (k0_pay11 c) (k0_pay12 s) (k0_pay13 g) x1) (k0_pay19 (k0_pay11 c) (k0_pay12 s) (k0_pay13 g) x2) (k0_pay20 x3) k0_pay21 k0_pay22 (k0_pay23 x3)
      (constant S256x128 FTy.f32 0#32) k0 k1 v0 v1

/-- The first head's columns are widened as the fourth's are. -/
theorem pay14_eq (x : Vec Ideal S256x128 .bf16) : k0_pay14 (F := Ideal) x = k0_pay20 x := rfl

/-- The tables and the gain are read whole. -/
theorem pay11_eq (x : Vec Ideal S256x128 .f32) : k0_pay11 (F := Ideal) x = x := by pointwise [k0_pay11]

/-- The second table likewise. -/
theorem pay12_eq (x : Vec Ideal S256x128 .f32) : k0_pay12 (F := Ideal) x = x := by pointwise [k0_pay12]

/-- The gain likewise. -/
theorem pay13_eq (x : Vec Ideal S1x128 .f32) : k0_pay13 (F := Ideal) x = x := by pointwise [k0_pay13]

/-- The text's accumulator is the one named here. -/
theorem acc24_eq (c s : Vec Ideal S256x128 .f32) (g : Vec Ideal S1x128 .f32) (x0 x1 x2 x3 : Vec Ideal S256x128 .bf16)
    (k0 k1 : FVec Ideal S2048x128 .bf16) (v0 v1 : FVec Ideal S2048x256 .bf16) :
    acc24 c s g x0 x1 x2 x3 k0 k1 v0 v1 = acc c s g x0 x1 x2 x3 k0 k1 v0 v1 := by
  unfold acc24 acc prep
  rw [pay11_eq, pay12_eq, pay13_eq, acc_eq, pay18_eq, pay19_eq, pay14_eq]

/-- Its columns are cut from it. -/
theorem acc25_eq (c s : Vec Ideal S256x128 .f32) (g : Vec Ideal S1x128 .f32) (x0 x1 x2 x3 : Vec Ideal S256x128 .bf16)
    (k0 k1 : FVec Ideal S2048x128 .bf16) (v0 v1 : FVec Ideal S2048x256 .bf16) :
    acc25 c s g x0 x1 x2 x3 k0 k1 v0 v1 = extractStridedSlice S1024x128 ![0, 0] (acc24 c s g x0 x1 x2 x3 k0 k1 v0 v1) slices_S1024x256_o0_0_S1024x128 := by
  unfold acc25 acc24
  rfl

/-- The stores of a point, as its text has them. -/
theorem tile24 (c s : Vec Ideal S256x128 .f32) (g : Vec Ideal S1x128 .f32) (x0 x1 x2 x3 : Vec Ideal S256x128 .bf16)
    (k0 k1 : FVec Ideal S2048x128 .bf16) (v0 v1 : FVec Ideal S2048x256 .bf16) :
    View.canon (Val := Elt Ideal) (s := S256x512) (e := .bf16)
      [⟨Rect.unit ![0, 384] ![256, 128] inb_S256x512_S256x128_0_384, k0_pay5 (acc24 c s g x0 x1 x2 x3 k0 k1 v0 v1) (acc25 c s g x0 x1 x2 x3 k0 k1 v0 v1)⟩,
       ⟨Rect.unit ![0, 256] ![256, 128] inb_S256x512_S256x128_0_256, k0_pay4 (acc24 c s g x0 x1 x2 x3 k0 k1 v0 v1) (acc25 c s g x0 x1 x2 x3 k0 k1 v0 v1)⟩,
       ⟨Rect.unit ![0, 128] ![256, 128] inb_S256x512_S256x128_0_128, k0_pay3 (acc24 c s g x0 x1 x2 x3 k0 k1 v0 v1) (acc25 c s g x0 x1 x2 x3 k0 k1 v0 v1)⟩,
       ⟨Rect.unit ![0, 0] ![256, 128] inb_S256x512_S256x128_0_0, k0_pay2 (acc24 c s g x0 x1 x2 x3 k0 k1 v0 v1) (acc25 c s g x0 x1 x2 x3 k0 k1 v0 v1)⟩]
      = side (acc c s g x0 x1 x2 x3 k0 k1 v0 v1) := by
  rw [acc25_eq, tile_eq, acc24_eq]

/-- The values with their columns of ones, as stored. -/
def vones (x : Vec Ideal S4096x128 .bf16) : FVec Ideal S4096x256 .bf16 :=
  View.canon (Val := Elt Ideal) (s := S4096x256) (e := .bf16)
    [⟨Rect.unit ![0, 128] ![4096, 128] inb_S4096x256_S4096x128_0_128, k0_pay10 (F := Ideal)⟩,
      ⟨Rect.unit ![0, 0] ![4096, 128] inb_S4096x256_S4096x128_0_0, k0_pay9 x⟩]

/-- The prepared keys, as stored. -/
theorem keys_eq (x : Vec Ideal S4096x128 .bf16) (g : Vec Ideal S1x128 .f32) (c s : Vec Ideal S4096x128 .f32) :
    View.canon (Val := Elt Ideal) (s := S4096x128) (e := .bf16) [⟨Rect.unit ![0, 0] ![4096, 128] inb_S4096x128_S4096x128_0_0, k0_pay6 x g c s⟩] = k0_pay6 x g c s := by
  frame_out

variable (m : (ℓ : Loc nD τ sig) → Buf (Elt Ideal) ℓ)

/-- A point's tile, over the contents of the two scratch arrays. -/
def tileOf (c : Dev nD) (t : Fin cfg0.N) (K : Vec Ideal S4096x128 .bf16) (V : Vec Ideal S4096x256 .bf16) : FVec Ideal S256x512 .bf16 :=
  side (acc (iblk m c 3 t) (iblk m c 4 t) (iblk m c 7 t)
        (View.ld (iblk m c 0 t) (Rect.unit ![0, 0] ![256, 128] inb_S256x512_S256x128_0_0))
        (View.ld (iblk m c 0 t) (Rect.unit ![0, 128] ![256, 128] inb_S256x512_S256x128_0_128))
        (View.ld (iblk m c 0 t) (Rect.unit ![0, 256] ![256, 128] inb_S256x512_S256x128_0_256))
        (View.ld (iblk m c 0 t) (Rect.unit ![0, 384] ![256, 128] inb_S256x512_S256x128_0_384))
        (View.ld K (Rect.unit ![0, 0] ![2048, 128] inb_S4096x128_S2048x128_0_0)) (View.ld K (Rect.unit ![2048, 0] ![2048, 128] inb_S4096x128_S2048x128_2048_0))
        (View.ld V (Rect.unit ![0, 0] ![2048, 256] inb_S4096x256_S2048x256_0_0)) (View.ld V (Rect.unit ![2048, 0] ![2048, 256] inb_S4096x256_S2048x256_2048_0)))

/-- The tile of a point that stores the keys and values. -/
theorem out_A (c : Dev nD) (t : Fin cfg0.N) (h : t.val % 16 = 0) :
    (outsAt0 m c t.val t.isLt).1 = tileOf m c t (k0_pay6 (iblk m c 1 t) (iblk m c 8 t) (iblk m c 5 t) (iblk m c 6 t)) (vones (iblk m c 2 t)) := by
  rw [outsAt0_A m c t h]
  frame_out
  simp only [View.readCov_eq_canon']
  simp only [keys_eq]
  unfold tileOf
  refine Eq.trans ?_ (tile24 _ _ _ _ _ _ _ _ _ _ _)
  unfold acc24 acc25
  rfl

/-- The tile of a later point, from what the point before left. -/
theorem out_B (c : Dev nD) (t : Fin cfg0.N) (h : ¬ t.val % 16 = 0) :
    (outsAt0 m c t.val t.isLt).1 = tileOf m c t (outsAt0 m c (t.val - 1) (by have := t.isLt; omega)).2.2.2.1 (outsAt0 m c (t.val - 1) (by have := t.isLt; omega)).2.2.2.2 := by
  rw [outsAt0_B m c t h]
  generalize (outsAt0 m c (t.val - 1) _).2.2.2.1 = K
  generalize (outsAt0 m c (t.val - 1) _).2.2.2.2 = V
  frame_out
  simp only [read_unread_whole]
  unfold tileOf
  refine Eq.trans ?_ (tile24 _ _ _ _ _ _ _ _ _ _ _)
  unfold acc24 acc25
  rfl
end Cert.KernelIdeal.MixA
-- ==== Proof.Spec.lean ====
module
public import proofs.«01_k».proof.Proof.Form
@[expose] public section
noncomputable section
open Idealize.ShloMosaic
namespace Cert.Math

/-- A token's row of the packed array: batch `b`, position `s`. -/
def tok (b : Fin 2) (s : Fin 4096) : Fin 8192 := ⟨b.val * 4096 + s.val, by have := b.isLt; have := s.isLt; omega⟩

/-- A query column: group `g`, head `h` of the group, place `d`. -/
def qcol (g : Fin 2) (h : Fin 4) (d : Fin 128) : Fin 1536 :=
  ⟨g.val * 512 + h.val * 128 + d.val, by have := g.isLt; have := h.isLt; have := d.isLt; omega⟩

/-- A key column of a group. -/
def kcol (g : Fin 2) (d : Fin 128) : Fin 1536 := ⟨1024 + g.val * 128 + d.val, by have := g.isLt; have := d.isLt; omega⟩

/-- A value column of a group. -/
def vcol (g : Fin 2) (d : Fin 128) : Fin 1536 := ⟨1280 + g.val * 128 + d.val, by have := g.isLt; have := d.isLt; omega⟩

/-- A token's prepared key of a group. -/
def keyRow (X : Fin 8192 → Fin 1536 → EReal) (w : Fin 128 → EReal) (b g : Fin 2) (s : Fin 4096) : Fin 128 → EReal :=
  rot (nrm (fun d => X (tok b s) (kcol g d)) w) (ctab s) (stab s)

/-- A token's prepared query of a head. -/
def queryRow (X : Fin 8192 → Fin 1536 → EReal) (w : Fin 128 → EReal) (b g : Fin 2) (h : Fin 4) (s : Fin 4096) : Fin 128 → EReal :=
  rot (nrm (fun d => X (tok b s) (qcol g h d)) w) (ctab s) (stab s)

/-- The score of a query against a key. -/
def score (X : Fin 8192 → Fin 1536 → EReal) (wq wk : Fin 128 → EReal) (b g : Fin 2) (h : Fin 4) (s k : Fin 4096) : EReal :=
  (∑ d, queryRow X wq b g h s d * keyRow X wk b g k d) * Ideal.ofBits FTy.f32 1035273459#32

/-- The largest score of a query. -/
def peak (X : Fin 8192 → Fin 1536 → EReal) (wq wk : Fin 128 → EReal) (b g : Fin 2) (h : Fin 4) (s : Fin 4096) : EReal :=
  Finset.univ.fold max (⊥ : EReal) fun k => score X wq wk b g h s k

/-- The attention: the softmax of a query's scores applied to the values. -/
def att (X : Fin 8192 → Fin 1536 → EReal) (wq wk : Fin 128 → EReal) (b g : Fin 2) (h : Fin 4) (s : Fin 4096) (d : Fin 128) : EReal :=
  ∑ k, Ideal.div (Ideal.exp (score X wq wk b g h s k - peak X wq wk b g h s)) (∑ l, Ideal.exp (score X wq wk b g h s l - peak X wq wk b g h s)) * X (tok b k) (vcol g d)

/-- With finite gains every prepared row is real. -/
theorem keyRow_real (X : Fin 8192 → Fin 1536 → EReal) (w : Fin 128 → EReal) (hw : ∀ d, IsReal (w d)) (b g : Fin 2) (s : Fin 4096) (d : Fin 128) :
    IsReal (keyRow X w b g s d) :=
  rot_real _ _ _ (nrm_real _ _ hw) (ctab_real _) (stab_real _) d

/-- The queries likewise. -/
theorem queryRow_real (X : Fin 8192 → Fin 1536 → EReal) (w : Fin 128 → EReal) (hw : ∀ d, IsReal (w d)) (b g : Fin 2) (h : Fin 4) (s : Fin 4096) (d : Fin 128) :
    IsReal (queryRow X w b g h s d) :=
  rot_real _ _ _ (nrm_real _ _ hw) (ctab_real _) (stab_real _) d

/-- So is every score. -/
theorem score_real (X : Fin 8192 → Fin 1536 → EReal) (wq wk : Fin 128 → EReal) (hq : ∀ d, IsReal (wq d)) (hk : ∀ d, IsReal (wk d)) (b g : Fin 2) (h : Fin 4)
    (s k : Fin 4096) : IsReal (score X wq wk b g h s k) := by
  obtain ⟨e, he, h1⟩ := scale_pos
  unfold score
  rw [h1]
  exact (isReal_sum _ _ fun d => (queryRow_real X wq hq b g h s d).mul (keyRow_real X wk hk b g k d)).mul ⟨e, rfl⟩

/-- And the largest. -/
theorem peak_real (X : Fin 8192 → Fin 1536 → EReal) (wq wk : Fin 128 → EReal) (hq : ∀ d, IsReal (wq d)) (hk : ∀ d, IsReal (wk d)) (b g : Fin 2) (h : Fin 4)
    (s : Fin 4096) : IsReal (peak X wq wk b g h s) :=
  isReal_foldMax (by norm_num) _ (score_real X wq wk hq hk b g h s)

/-- The scale may be taken into the query. -/
theorem score_eq (X : Fin 8192 → Fin 1536 → EReal) (wq wk : Fin 128 → EReal) (b g : Fin 2) (h : Fin 4) (s k : Fin 4096) :
    ∑ d, queryRow X wq b g h s d * Ideal.ofBits FTy.f32 1035273459#32 * keyRow X wk b g k d = score X wq wk b g h s k := by
  obtain ⟨e, he, h1⟩ := scale_pos
  unfold score
  rw [h1]
  exact scale_dot _ _ e he.le
end Cert.Math
-- ==== Proof.Blk.lean ====
module
public import proofs.«01_k».proof.Proof.Tile
public import proofs.«01_k».proof.Proof.Spec
public import proofs.«01_k».proof.Proof.Tab
public import proofs.«01_k».proof.Proof.Gen.KernelIdeal.Value
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.KernelIdeal.MixA
open Cert.KernelIdeal Cert.KernelIdeal.Gen Cert.Math

variable (m : (ℓ : Loc nD τ sig) → Buf (Elt Ideal) ℓ)
/-- The blocks' places at a point. -/
theorem idx : ∀ t : Fin cfg0.N, win0_0.index t = ![t.val / 32 * 16 + t.val % 16, t.val / 16 % 2] ∧ win0_1.index t = ![t.val / 32, 8 + t.val / 16 % 2]
    ∧ win0_2.index t = ![t.val / 32, 10 + t.val / 16 % 2] ∧ win0_3.index t = ![t.val % 16, 0] ∧ win0_4.index t = ![t.val % 16, 0] ∧ win0_5.index t = ![0, 0]
    ∧ win0_6.index t = ![0, 0] ∧ win0_7.index t = ![0, 0] ∧ win0_8.index t = ![0, 0] ∧ win0_9.index t = ![0, t.val, 0] ∧ win0_10.index t = ![0, t.val, 0]
    ∧ win0_11.index t = ![t.val / 32 * 16 + t.val % 16, t.val / 16 % 2] ∧ win0_12.index t = ![t.val, 0] ∧ win0_13.index t = ![0, t.val] :=
  (by decide +kernel : ∀ t : Fin grid0.N, _)

/-- The batch of a point. -/
def bat (t : Fin cfg0.N) : Fin 2 := ⟨t.val / 32, by have h : t.val < 64 := lt_of_lt_of_eq t.isLt N_0; omega⟩

/-- The group of a point. -/
def grp (t : Fin cfg0.N) : Fin 2 := ⟨t.val / 16 % 2, Nat.mod_lt _ (by norm_num)⟩

/-- The position of a point's row. -/
def spos (t : Fin cfg0.N) (i : Fin 256) : Fin 4096 := ⟨t.val % 16 * 256 + i.val, by have := i.isLt; omega⟩

/-- The packed array, by row and column. -/
def X (c : Dev nD) (r : Fin 8192) (e : Fin 1536) : EReal := (m ((c : Thread nD τ).loc main_arg0) : FVec Ideal S8192x1536 .bf16) (ix2 r e)

/-- The query gain. -/
def wq (c : Dev nD) (d : Fin 128) : EReal := (m ((c : Thread nD τ).loc main_arg1) : FVec Ideal S128 .f32) (ix1 d)

/-- The key gain. -/
def wk (c : Dev nD) (d : Fin 128) : EReal := (m ((c : Thread nD τ).loc main_arg2) : FVec Ideal S128 .f32) (ix1 d)

/-- The first head's query columns at a point. -/
theorem q0 (c : Dev nD) (t : Fin cfg0.N) (i : Fin 256) (d : Fin 128) :
    (View.ld (iblk m c 0 t) (Rect.unit ![0, 0] ![256, 128] inb_S256x512_S256x128_0_0) : Vec Ideal S256x128 .bf16) (ix2 i d) = X m c (tok (bat t) (spos t i)) (qcol (grp t) 0 d) := by
  unfold X tok bat spos qcol grp
  blk_point [iblk, V, idx t]

/-- The second head's. -/
theorem q1 (c : Dev nD) (t : Fin cfg0.N) (i : Fin 256) (d : Fin 128) :
    (View.ld (iblk m c 0 t) (Rect.unit ![0, 128] ![256, 128] inb_S256x512_S256x128_0_128) : Vec Ideal S256x128 .bf16) (ix2 i d) = X m c (tok (bat t) (spos t i)) (qcol (grp t) 1 d) := by
  unfold X tok bat spos qcol grp
  blk_point [iblk, V, idx t]

/-- The third head's. -/
theorem q2 (c : Dev nD) (t : Fin cfg0.N) (i : Fin 256) (d : Fin 128) :
    (View.ld (iblk m c 0 t) (Rect.unit ![0, 256] ![256, 128] inb_S256x512_S256x128_0_256) : Vec Ideal S256x128 .bf16) (ix2 i d) = X m c (tok (bat t) (spos t i)) (qcol (grp t) 2 d) := by
  unfold X tok bat spos qcol grp
  blk_point [iblk, V, idx t]

/-- The fourth head's. -/
theorem q3 (c : Dev nD) (t : Fin cfg0.N) (i : Fin 256) (d : Fin 128) :
    (View.ld (iblk m c 0 t) (Rect.unit ![0, 384] ![256, 128] inb_S256x512_S256x128_0_384) : Vec Ideal S256x128 .bf16) (ix2 i d) = X m c (tok (bat t) (spos t i)) (qcol (grp t) 3 d) := by
  unfold X tok bat spos qcol grp
  blk_point [iblk, V, idx t]

/-- The key columns at a point. -/
theorem b1 (c : Dev nD) (t : Fin cfg0.N) (k : Fin 4096) (d : Fin 128) :
    (iblk m c 1 t : FVec Ideal S4096x128 .bf16) (ix2 k d) = X m c (tok (bat t) k) (kcol (grp t) d) := by
  unfold X tok bat kcol grp
  blk_point [iblk, V, idx t]

/-- The value columns at a point. -/
theorem b2 (c : Dev nD) (t : Fin cfg0.N) (k : Fin 4096) (d : Fin 128) :
    (iblk m c 2 t : FVec Ideal S4096x128 .bf16) (ix2 k d) = X m c (tok (bat t) k) (vcol (grp t) d) := by
  unfold X tok bat vcol grp
  blk_point [iblk, V, idx t]

/-- The cosine rows of the queries. -/
theorem b3 (c : Dev nD) (t : Fin cfg0.N) (i : Fin 256) (d : Fin 128) : (iblk m c 3 t : FVec Ideal S256x128 .f32) (ix2 i d) = ctab (spos t i) d := by
  refine Eq.trans ?_ (cos_table m c (spos t i) d)
  unfold spos
  blk_point [iblk, idx t]

/-- The sine rows of the queries. -/
theorem b4 (c : Dev nD) (t : Fin cfg0.N) (i : Fin 256) (d : Fin 128) : (iblk m c 4 t : FVec Ideal S256x128 .f32) (ix2 i d) = stab (spos t i) d := by
  refine Eq.trans ?_ (sin_table m c (spos t i) d)
  unfold spos
  blk_point [iblk, idx t]

/-- The cosine rows of the keys. -/
theorem b5 (c : Dev nD) (t : Fin cfg0.N) (k : Fin 4096) (d : Fin 128) : (iblk m c 5 t : FVec Ideal S4096x128 .f32) (ix2 k d) = ctab k d := by
  refine Eq.trans ?_ (cos_table m c k d)
  blk_point [iblk, idx t]

/-- The sine rows of the keys. -/
theorem b6 (c : Dev nD) (t : Fin cfg0.N) (k : Fin 4096) (d : Fin 128) : (iblk m c 6 t : FVec Ideal S4096x128 .f32) (ix2 k d) = stab k d := by
  refine Eq.trans ?_ (sin_table m c k d)
  blk_point [iblk, idx t]

/-- The query gain's row. -/
theorem b7 (c : Dev nD) (t : Fin cfg0.N) (d : Fin 128) : (iblk m c 7 t : FVec Ideal S1x128 .f32) (ix2 0 d) = wq m c d := by
  refine Eq.trans ?_ (qgain m c d)
  blk_point [iblk, idx t]

/-- The key gain's row. -/
theorem b8 (c : Dev nD) (t : Fin cfg0.N) (d : Fin 128) : (iblk m c 8 t : FVec Ideal S1x128 .f32) (ix2 0 d) = wk m c d := by
  refine Eq.trans ?_ (kgain m c d)
  blk_point [iblk, idx t]

/-- The values with ones, in a value column. -/
theorem vones_at (x : Vec Ideal S4096x128 .bf16) (k : Fin 4096) (j : Fin 256) : vones x (ix2 k j) = if h : j.val < 128 then x (ix2 k ⟨j.val, h⟩) else 1 := by
  unfold vones
  canon_tiles y h
  · idx_vars y
    change j.val = 128 + y1.val at h1
    rw [dif_neg (by omega)]
    pointwise [k0_pay10]
  · idx_vars y
    change k.val = y0.val at h0
    change j.val = y1.val at h1
    rw [dif_pos (by omega)]
    pointwise [k0_pay9]
    have e0 : y0 = k := Fin.ext h0.symm
    subst e0
    exact congrArg (fun e => x (ix2 y0 e)) (Fin.ext h1.symm)

/-- At a run's first point the scratch holds the keys just prepared. -/
theorem first0 (c : Dev nD) (t : Fin cfg0.N) (h : t.val % 16 = 0) :
    (outsAt0 m c t.val t.isLt).2.2.2.1 = k0_pay6 (iblk m c 1 t) (iblk m c 8 t) (iblk m c 5 t) (iblk m c 6 t) := by
  rw [outsAt0_A m c t h]; frame_out

/-- Later points leave them. -/
theorem later0 (c : Dev nD) (t : Fin cfg0.N) (h : ¬ t.val % 16 = 0) :
    (outsAt0 m c t.val t.isLt).2.2.2.1 = (outsAt0 m c (t.val - 1) (by have := t.isLt; omega)).2.2.2.1 := by
  rw [outsAt0_B m c t h]
  generalize (outsAt0 m c (t.val - 1) _).2.2.2.1 = K
  generalize (outsAt0 m c (t.val - 1) _).2.2.2.2 = V
  dsimp only
  unfold sout0_B_0
  rfl

/-- At a run's first point the other scratch holds the values with ones. -/
theorem first1 (c : Dev nD) (t : Fin cfg0.N) (h : t.val % 16 = 0) :
    (outsAt0 m c t.val t.isLt).2.2.2.2 = vones (iblk m c 2 t) := by
  rw [outsAt0_A m c t h]; frame_out

/-- Later points leave them too. -/
theorem later1 (c : Dev nD) (t : Fin cfg0.N) (h : ¬ t.val % 16 = 0) :
    (outsAt0 m c t.val t.isLt).2.2.2.2 = (outsAt0 m c (t.val - 1) (by have := t.isLt; omega)).2.2.2.2 := by
  rw [outsAt0_B m c t h]
  generalize (outsAt0 m c (t.val - 1) _).2.2.2.1 = K
  generalize (outsAt0 m c (t.val - 1) _).2.2.2.2 = V
  dsimp only
  unfold sout0_B_1
  rfl

/-- The keys a point prepares. -/
theorem prep_keys (c : Dev nD) (t : Fin cfg0.N) (k : Fin 4096) (d : Fin 128) :
    k0_pay6 (F := Ideal) (iblk m c 1 t) (iblk m c 8 t) (iblk m c 5 t) (iblk m c 6 t) (ix2 k d) = keyRow (X m c) (wk m c) (bat t) (grp t) k d := by
  rw [key_at]
  unfold keyRow
  congr 1
  · congr 1
    · funext e; exact b1 m c t k e
    · funext e; exact b8 m c t e
  · funext e; exact b5 m c t k e
  · funext e; exact b6 m c t k e

/-- The values a point stores, by column. -/
def vals (c : Dev nD) (t : Fin cfg0.N) (k : Fin 4096) (j : Fin 256) : EReal :=
  if h : j.val < 128 then X m c (tok (bat t) k) (vcol (grp t) ⟨j.val, h⟩) else 1

/-- They are what the point stores. -/
theorem prep_vals (c : Dev nD) (t : Fin cfg0.N) (k : Fin 4096) (j : Fin 256) : vones (iblk m c 2 t) (ix2 k j) = vals m c t k j := by
  rw [vones_at]
  unfold vals
  by_cases h : j.val < 128
  · rw [dif_pos h, dif_pos h]; exact b2 m c t k _
  · rw [dif_neg h, dif_neg h]

/-- Two points of one run have the same batch. -/
theorem bat_eq (t u : Fin cfg0.N) (h : t.val / 16 = u.val / 16) : bat t = bat u := Fin.ext (by show t.val / 32 = u.val / 32; omega)

/-- And the same group. -/
theorem grp_eq (t u : Fin cfg0.N) (h : t.val / 16 = u.val / 16) : grp t = grp u := Fin.ext (by show t.val / 16 % 2 = u.val / 16 % 2; omega)

/-- What the two scratch arrays hold after any point. -/
theorem held (c : Dev nD) (n : ℕ) : ∀ t : Fin cfg0.N, t.val = n →
    (∀ (k : Fin 4096) (d : Fin 128), ((outsAt0 m c t.val t.isLt).2.2.2.1 : FVec Ideal S4096x128 .bf16) (ix2 k d) = keyRow (X m c) (wk m c) (bat t) (grp t) k d)
    ∧ ∀ (k : Fin 4096) (j : Fin 256), ((outsAt0 m c t.val t.isLt).2.2.2.2 : FVec Ideal S4096x256 .bf16) (ix2 k j) = vals m c t k j := by
  induction n with
  | zero =>
    intro t ht
    have h : t.val % 16 = 0 := by omega
    rw [first0 m c t h, first1 m c t h]
    exact ⟨prep_keys m c t, prep_vals m c t⟩
  | succ n ih =>
    intro t ht
    by_cases h : t.val % 16 = 0
    · rw [first0 m c t h, first1 m c t h]
      exact ⟨prep_keys m c t, prep_vals m c t⟩
    · rw [later0 m c t h, later1 m c t h]
      have hu : t.val - 1 < cfg0.N := by have := t.isLt; omega
      have e : (⟨t.val - 1, hu⟩ : Fin cfg0.N).val / 16 = t.val / 16 := by show (t.val - 1) / 16 = t.val / 16; omega
      obtain ⟨h1, h2⟩ := ih ⟨t.val - 1, hu⟩ (by show t.val - 1 = n; omega)
      unfold vals at h2 ⊢
      rw [bat_eq _ t e, grp_eq _ t e] at h1 h2
      exact ⟨h1, h2⟩
end Cert.KernelIdeal.MixA
-- ==== Proof.Arr.lean ====
module
public import proofs.«01_k».proof.Proof.Blk
public import proofs.«01_k».proof.Proof.Spec
public import proofs.«01_k».proof.Proof.Tab
public import proofs.«01_k».proof.Proof.Gen.KernelIdeal.Value
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.KernelIdeal.MixA
open Cert.KernelIdeal Cert.KernelIdeal.Gen Cert.Math

variable (m : (ℓ : Loc nD τ sig) → Buf (Elt Ideal) ℓ)

/-- The heads' rows, one below the other. -/
theorem heads_at (q0 q1 q2 q3 : FVec Ideal S256x128 .bf16) (h : Fin 4) (i : Fin 256) (d : Fin 128) :
    heads q0 q1 q2 q3 (ix2 ⟨h.val * 256 + i.val, by have := i.isLt; have := h.isLt; omega⟩ d) = (![q0, q1, q2, q3] h) (ix2 i d) := by
  match h with
  | 0 => exact (congrArg (fun r => heads q0 q1 q2 q3 (ix2 r d)) (Fin.ext (by simp))).trans (heads_at0 q0 q1 q2 q3 i d)
  | 1 => exact (congrArg (fun r => heads q0 q1 q2 q3 (ix2 r d)) (Fin.ext (by simp))).trans (heads_at1 q0 q1 q2 q3 i d)
  | 2 => exact (congrArg (fun r => heads q0 q1 q2 q3 (ix2 r d)) (Fin.ext (by simp))).trans (heads_at2 q0 q1 q2 q3 i d)
  | 3 => exact (congrArg (fun r => heads q0 q1 q2 q3 (ix2 r d)) (Fin.ext (by simp))).trans (heads_at3 q0 q1 q2 q3 i d)

/-- A head's prepared queries at a point, over its columns. -/
theorem prep_at (c : Dev nD) (t : Fin cfg0.N) (h : Fin 4) (x : Vec Ideal S256x128 .bf16)
    (hx : ∀ (i : Fin 256) (d : Fin 128), x (ix2 i d) = X m c (tok (bat t) (spos t i)) (qcol (grp t) h d)) (i : Fin 256) (d : Fin 128) :
    prep (iblk m c 3 t) (iblk m c 4 t) (iblk m c 7 t) x (ix2 i d)
      = queryRow (X m c) (wq m c) (bat t) (grp t) h (spos t i) d * Ideal.ofBits FTy.f32 1035273459#32 := by
  unfold prep
  rw [query_at]
  unfold queryRow
  congr 2
  · congr 1
    · funext e; exact hx i e
    · funext e; exact b7 m c t e
  · funext e; exact b3 m c t i e
  · funext e; exact b4 m c t i e

/-- A row of the point's prepared queries. -/
theorem Q_at (c : Dev nD) (t : Fin cfg0.N) (h : Fin 4) (i : Fin 256) (d : Fin 128) :
    heads (prep (iblk m c 3 t) (iblk m c 4 t) (iblk m c 7 t) (View.ld (iblk m c 0 t) (Rect.unit ![0, 0] ![256, 128] inb_S256x512_S256x128_0_0)))
      (prep (iblk m c 3 t) (iblk m c 4 t) (iblk m c 7 t) (View.ld (iblk m c 0 t) (Rect.unit ![0, 128] ![256, 128] inb_S256x512_S256x128_0_128)))
      (prep (iblk m c 3 t) (iblk m c 4 t) (iblk m c 7 t) (View.ld (iblk m c 0 t) (Rect.unit ![0, 256] ![256, 128] inb_S256x512_S256x128_0_256)))
      (prep (iblk m c 3 t) (iblk m c 4 t) (iblk m c 7 t) (View.ld (iblk m c 0 t) (Rect.unit ![0, 384] ![256, 128] inb_S256x512_S256x128_0_384)))
      (ix2 ⟨h.val * 256 + i.val, by have := i.isLt; have := h.isLt; omega⟩ d)
      = queryRow (X m c) (wq m c) (bat t) (grp t) h (spos t i) d * Ideal.ofBits FTy.f32 1035273459#32 := by
  rw [heads_at]
  match h with
  | 0 => exact prep_at m c t 0 _ (q0 m c t) i d
  | 1 => exact prep_at m c t 1 _ (q1 m c t) i d
  | 2 => exact prep_at m c t 2 _ (q2 m c t) i d
  | 3 => exact prep_at m c t 3 _ (q3 m c t) i d

/-- A point's tile, over scratch contents as they are held, is the attention. -/
theorem tile_at (c : Dev nD) (hq : ∀ d, IsReal (wq m c d)) (hk : ∀ d, IsReal (wk m c d)) (t : Fin cfg0.N)
    (K : Vec Ideal S4096x128 .bf16) (V : Vec Ideal S4096x256 .bf16)
    (hK : ∀ (k : Fin 4096) (d : Fin 128), K (ix2 k d) = keyRow (X m c) (wk m c) (bat t) (grp t) k d)
    (hV : ∀ (k : Fin 4096) (j : Fin 256), V (ix2 k j) = vals m c t k j) (h : Fin 4) (i : Fin 256) (d : Fin 128) :
    tileOf m c t K V (ix2 i ⟨h.val * 128 + d.val, by have := d.isLt; have := h.isLt; omega⟩)
      = att (X m c) (wq m c) (wk m c) (bat t) (grp t) h (spos t i) d := by
  unfold tileOf
  rw [← side_at _ i _ i d h rfl rfl]
  unfold quo acc
  refine (row_at _ _ _ _ _ _ d (keyRow (X m c) (wk m c) (bat t) (grp t)) (fun k => X m c (tok (bat t) k) (vcol (grp t) d))
    (peak (X m c) (wq m c) (wk m c) (bat t) (grp t) h (spos t i)) (peak_real _ _ _ hq hk _ _ _ _) ?_ ?_ ?_ ?_ ?_ ?_ ?_).trans ?_
  · intro k e; refine Eq.trans ?_ (hK _ e); pointwise
  · intro k e; refine Eq.trans ?_ (hK _ e); pointwise
  · intro k
    refine Eq.trans ?_ ((hV _ ⟨d.val, by have := d.isLt; omega⟩).trans (dif_pos d.isLt))
    pointwise
  · intro k
    refine Eq.trans ?_ ((hV _ ⟨d.val, by have := d.isLt; omega⟩).trans (dif_pos d.isLt))
    pointwise
  · intro k
    refine Eq.trans ?_ ((hV ⟨k.val, by have := k.isLt; omega⟩ 128).trans (dif_neg (by decide)))
    pointwise
  · intro k
    refine Eq.trans ?_ ((hV ⟨2048 + k.val, by have := k.isLt; omega⟩ 128).trans (dif_neg (by decide)))
    pointwise
  · intro k
    simp only [Q_at, score_eq]
    exact score_real _ _ _ hq hk _ _ _ _ _
  · simp only [Q_at, score_eq]
    rfl

/-- What a point leaves in the attention's window. -/
theorem w11 (c : Dev nD) (hq : ∀ d, IsReal (wq m c d)) (hk : ∀ d, IsReal (wk m c d)) (t : Fin cfg0.N) (h : Fin 4) (i : Fin 256) (d : Fin 128) :
    ((outsAt0 m c t.val t.isLt).1 : FVec Ideal S256x512 .bf16) (ix2 i ⟨h.val * 128 + d.val, by have := d.isLt; have := h.isLt; omega⟩)
      = att (X m c) (wq m c) (wk m c) (bat t) (grp t) h (spos t i) d := by
  by_cases h0 : t.val % 16 = 0
  · rw [out_A m c t h0]
    exact tile_at m c hq hk t _ _ (prep_keys m c t) (prep_vals m c t) h i d
  · rw [out_B m c t h0, ← later0 m c t h0, ← later1 m c t h0]
    obtain ⟨h1, h2⟩ := held m c _ t rfl
    exact tile_at m c hq hk t _ _ h1 h2 h i d

/-- What a point leaves in the first copied table's window. -/
theorem w12 (c : Dev nD) (t : Fin cfg0.N) : (outsAt0 m c t.val t.isLt).2.1 = k0_pay7 (iblk m c 9 t) := by
  by_cases h : t.val % 16 = 0
  · rw [outsAt0_A m c t h]; frame_out
  · rw [outsAt0_B m c t h]; frame_out

/-- What it leaves in the transposed table's window. -/
theorem w13 (c : Dev nD) (t : Fin cfg0.N) : (outsAt0 m c t.val t.isLt).2.2.1 = k0_pay8 (iblk m c 10 t) := by
  by_cases h : t.val % 16 = 0
  · rw [outsAt0_A m c t h]; frame_out
  · rw [outsAt0_B m c t h]; frame_out

/-- The attention's array. -/
theorem final11 (c : Dev nD) (hq : ∀ d, IsReal (wq m c d)) (hk : ∀ d, IsReal (wk m c d)) :
    ((dats m 0 c).arrAt 11 cfg0.N : FVec Ideal S8192x1024 .bf16) = fun y => att (X m c) (wq m c) (wk m c)
      ⟨(y 0).val / 4096, by have : (y 0).val < 8192 := (y 0).isLt; omega⟩ ⟨(y 1).val / 512, by have : (y 1).val < 1024 := (y 1).isLt; omega⟩
      ⟨(y 1).val / 128 % 4, Nat.mod_lt _ (by norm_num)⟩ ⟨(y 0).val % 4096, Nat.mod_lt _ (by norm_num)⟩ ⟨(y 1).val % 128, Nat.mod_lt _ (by norm_num)⟩ := by
  refine (dats m 0 c).arrAt_eq_of_covers 11 _ (by decide +kernel) fun t hf y => ?_
  blk_simp
  rw [after0_11]
  obtain ⟨-, -, -, -, -, -, -, -, -, -, -, e, -, -⟩ := idx t
  have e0 : win0_11.index t 0 = t.val / 32 * 16 + t.val % 16 := congrFun e 0
  have e1 : win0_11.index t 1 = t.val / 16 % 2 := congrFun e 1
  have hy0 : (y 0).val < 256 := (y 0).isLt
  have hy1 : (y 1).val < 512 := (y 1).isLt
  have ht : t.val < 64 := lt_of_lt_of_eq t.isLt N_0
  have hw := w11 m c hq hk t ⟨(y 1).val / 128, by omega⟩ ⟨(y 0).val, hy0⟩ ⟨(y 1).val % 128, Nat.mod_lt _ (by norm_num)⟩
  refine Eq.trans (congrArg (outsAt0 m c t.val t.isLt).1 ?_) (hw.trans ?_)
  · funext a
    match a with
    | 0 => rfl
    | 1 => exact Fin.ext (by show (y 1).val = (y 1).val / 128 * 128 + (y 1).val % 128; omega)
  · congr 1 <;> refine Fin.ext ?_
    · show t.val / 32 = (win0_11.index t 0 * 256 + (y 0).val) / 4096
      rw [e0]; omega
    · show t.val / 16 % 2 = (win0_11.index t 1 * 512 + (y 1).val) / 512
      rw [e1]; omega
    · show (y 1).val / 128 = (win0_11.index t 1 * 512 + (y 1).val) / 128 % 4
      rw [e1]; omega
    · show t.val % 16 * 256 + (y 0).val = (win0_11.index t 0 * 256 + (y 0).val) % 4096
      rw [e0]; omega
    · show (y 1).val % 128 = (win0_11.index t 1 * 512 + (y 1).val) % 128
      rw [e1]; omega

/-- The copied table. -/
theorem final12 (c : Dev nD) :
    ((dats m 0 c).arrAt 12 cfg0.N : FVec Ideal S16384x2048 .bf16) = fun y => (m ((c : Thread nD τ).loc main_arg3) : FVec Ideal S2x16384x2048 .f32) (ix3 0 (y 0) (y 1)) := by
  refine (dats m 0 c).arrAt_eq_of_covers 12 _ (by decide +kernel) fun t hf y => ?_
  blk_simp
  rw [after0_12, w12]
  pointwise [k0_pay7]
  blk_point [iblk, V, idx t]

/-- The transposed table. -/
theorem final13 (c : Dev nD) :
    ((dats m 0 c).arrAt 13 cfg0.N : FVec Ideal S2048x16384 .bf16) = fun y => (m ((c : Thread nD τ).loc main_arg4) : FVec Ideal S2x16384x2048 .f32) (ix3 0 (y 1) (y 0)) := by
  refine (dats m 0 c).arrAt_eq_of_covers 13 _ (by decide +kernel) fun t hf y => ?_
  blk_simp
  rw [after0_13, w13]
  pointwise [k0_pay8]
  blk_point [iblk, V, idx t]
end Cert.KernelIdeal.MixA
-- ==== Proof.RefA.lean ====
module
public import proofs.«01_k».proof.Proof.Spec
public import proofs.«01_k».proof.Proof.Gen.ReferenceIdeal.Read
public import Idealize.ShloMosaic.Lib.Pipeline.ValueKit
@[expose] public section
set_option maxRecDepth 16384
noncomputable section
open Idealize.ShloMosaic Idealize.ShloMosaic.TcCoe Idealize.SL.Sem
namespace Cert.ReferenceIdeal.Att
open Cert.ReferenceIdeal Cert.ReferenceIdeal.Gen Cert.ReferenceIdeal.Read Cert.Math

/-- The reference's root mean square, by a division, is the spec's, by the reciprocal. -/
theorem nrm_ref (x g : Fin 128 → EReal) (d : Fin 128) :
    x d * Ideal.rsqrt (Ideal.div (0 + ∑ k, x k * x k) (Ideal.ofBits FTy.f32 0x43000000#32) + Ideal.ofBits FTy.f32 897988541#32) * g d = nrm x g d := by
  unfold nrm
  rw [zero_add, c128, Ideal.div_coe, ← sum_mul_coe _ _ _ (by norm_num)]
  norm_num

/-- First quarter of a turned row. -/
theorem rot_p0 (n : Fin 128 → EReal) (s : Fin 4096) (j : Fin 32) :
    n ⟨j.val, by have := j.isLt; omega⟩ * Ideal.cos (ang (s.val / 64) j.val) - n ⟨32 + j.val, by have := j.isLt; omega⟩ * Ideal.sin (ang (s.val / 64) j.val)
      = rot n (ctab s) (stab s) ⟨j.val, by have := j.isLt; omega⟩ := by
  have := j.isLt
  unfold rot ctab stab pos
  rw [if_pos (show j.val < 64 by omega), if_pos (show j.val % 64 < 32 by omega), Nat.mod_eq_of_lt this, sub_eq_add_neg, mul_neg]
  congr 4
  exact Fin.ext (show 32 + j.val = j.val ^^^ 32 from (by decide : ∀ j : Fin 32, 32 + j.val = j.val ^^^ 32) j)

/-- Second quarter of a turned row. -/
theorem rot_p1 (n : Fin 128 → EReal) (s : Fin 4096) (j : Fin 32) :
    n ⟨32 + j.val, by have := j.isLt; omega⟩ * Ideal.cos (ang (s.val / 64) j.val) + n ⟨j.val, by have := j.isLt; omega⟩ * Ideal.sin (ang (s.val / 64) j.val)
      = rot n (ctab s) (stab s) ⟨32 + j.val, by have := j.isLt; omega⟩ := by
  have := j.isLt
  unfold rot ctab stab pos
  rw [if_pos (show 32 + j.val < 64 by omega), if_neg (show ¬ (32 + j.val) % 64 < 32 by omega), show (32 + j.val) % 32 = j.val by omega]
  congr 3
  exact Fin.ext (show j.val = (32 + j.val) ^^^ 32 from (by decide : ∀ j : Fin 32, j.val = (32 + j.val) ^^^ 32) j)

/-- Third quarter of a turned row. -/
theorem rot_p2 (n : Fin 128 → EReal) (s : Fin 4096) (j : Fin 32) :
    n ⟨64 + j.val, by have := j.isLt; omega⟩ * Ideal.cos (ang (s.val % 64) j.val) - n ⟨96 + j.val, by have := j.isLt; omega⟩ * Ideal.sin (ang (s.val % 64) j.val)
      = rot n (ctab s) (stab s) ⟨64 + j.val, by have := j.isLt; omega⟩ := by
  have := j.isLt
  unfold rot ctab stab pos
  rw [if_neg (show ¬ 64 + j.val < 64 by omega), if_pos (show (64 + j.val) % 64 < 32 by omega), show (64 + j.val) % 32 = j.val by omega, sub_eq_add_neg, mul_neg]
  congr 4
  exact Fin.ext (show 96 + j.val = (64 + j.val) ^^^ 32 from (by decide : ∀ j : Fin 32, 96 + j.val = (64 + j.val) ^^^ 32) j)

/-- Last quarter of a turned row. -/
theorem rot_p3 (n : Fin 128 → EReal) (s : Fin 4096) (j : Fin 32) :
    n ⟨96 + j.val, by have := j.isLt; omega⟩ * Ideal.cos (ang (s.val % 64) j.val) + n ⟨64 + j.val, by have := j.isLt; omega⟩ * Ideal.sin (ang (s.val % 64) j.val)
      = rot n (ctab s) (stab s) ⟨96 + j.val, by have := j.isLt; omega⟩ := by
  have := j.isLt
  unfold rot ctab stab pos
  rw [if_neg (show ¬ 96 + j.val < 64 by omega), if_neg (show ¬ (96 + j.val) % 64 < 32 by omega), show (96 + j.val) % 32 = j.val by omega]
  congr 3
  exact Fin.ext (show 64 + j.val = (96 + j.val) ^^^ 32 from (by decide : ∀ j : Fin 32, 64 + j.val = (96 + j.val) ^^^ 32) j)

variable (x0 : FVec Ideal S8192x1536 .bf16) (x1 x2 : FVec Ideal S128 .f32)

/-- The packed array and the gains, by their coordinates. -/
abbrev XX (r : Fin 8192) (e : Fin 1536) : EReal := x0 (ix2 r e)

/-- A gain by its column. -/
abbrev gg (x : FVec Ideal S128 .f32) (d : Fin 128) : EReal := x (ix1 d)

/-- A query read by the reference. -/
theorem r5 (b : Fin 2) (s : Fin 4096) (g : Fin 2) (h : Fin 4) (d : Fin 128) :
    val_main_v5 (F := Ideal) x0 (ix5 b s g h d) = XX x0 (tok b s) (qcol g h d) := by
  pointwise [val_main_v5, val_main_v2, val_main_v1, val_main_v0]
  rfl

/-- A key read by the reference. -/
theorem r19 (b : Fin 2) (s : Fin 4096) (g : Fin 2) (d : Fin 128) :
    val_main_v19 (F := Ideal) x0 (ix4 b s g d) = XX x0 (tok b s) (kcol g d) := by
  pointwise [val_main_v19, val_main_v3, val_main_v1, val_main_v0]
  exact congrArg (fun e => x0 (ix2 (tok b s) e)) (Fin.ext (Nat.add_assoc _ _ _).symm)

/-- A value read by the reference. -/
theorem r33 (b : Fin 2) (s : Fin 4096) (g : Fin 2) (d : Fin 128) :
    val_main_v33 (F := Ideal) x0 (ix4 b s g d) = XX x0 (tok b s) (vcol g d) := by
  pointwise [val_main_v33, val_main_v4, val_main_v1, val_main_v0]
  exact congrArg (fun e => x0 (ix2 (tok b s) e)) (Fin.ext (Nat.add_assoc _ _ _).symm)

/-- A query's sum of squares. -/
theorem r7 (b : Fin 2) (s : Fin 4096) (g : Fin 2) (h : Fin 4) :
    val_main_v7 (F := Ideal) x0 (ix4 b s g h) = 0 + ∑ k, XX x0 (tok b s) (qcol g h k) * XX x0 (tok b s) (qcol g h k) := by
  rw [val_main_v7_apply]
  congr 1
  · show Ideal.ofBits FTy.f32 0x00000000#32 = 0
    simp [Ideal.ofBits, Ideal.ieee]
  · refine Finset.sum_congr rfl fun k _ => ?_
    rw [val_main_v6_apply, show idx_main_v7 (ix4 b s g h) k = ix5 b s g h k from by blk_ext, r5]
    rfl

/-- A normalised query. -/
theorem r18 (b : Fin 2) (s : Fin 4096) (g : Fin 2) (h : Fin 4) (d : Fin 128) :
    val_main_v18 (F := Ideal) x0 x1 (ix5 b s g h d) = nrm (fun e => XX x0 (tok b s) (qcol g h e)) (gg x1) d := by
  rw [← nrm_ref, ← r7, ← r5]
  pointwise [val_main_v18, val_main_v17, val_main_v16, val_main_v15, val_main_v14, val_main_v13, val_main_v12, val_main_v11, val_main_v10, val_main_v9, val_main_v8, val_main_cst_0, val_main_cst_1]

/-- A key's sum of squares. -/
theorem r21 (b : Fin 2) (s : Fin 4096) (g : Fin 2) :
    val_main_v21 (F := Ideal) x0 (ix3 b s g) = 0 + ∑ k, XX x0 (tok b s) (kcol g k) * XX x0 (tok b s) (kcol g k) := by
  rw [val_main_v21_apply]
  congr 1
  · show Ideal.ofBits FTy.f32 0x00000000#32 = 0
    simp [Ideal.ofBits, Ideal.ieee]
  · refine Finset.sum_congr rfl fun k _ => ?_
    rw [val_main_v20_apply, show idx_main_v21 (ix3 b s g) k = ix4 b s g k from by blk_ext, r19]
    rfl

/-- A normalised key. -/
theorem r32 (b : Fin 2) (s : Fin 4096) (g : Fin 2) (d : Fin 128) :
    val_main_v32 (F := Ideal) x0 x2 (ix4 b s g d) = nrm (fun e => XX x0 (tok b s) (kcol g e)) (gg x2) d := by
  rw [← nrm_ref, ← r21, ← r19]
  pointwise [val_main_v32, val_main_v31, val_main_v30, val_main_v29, val_main_v28, val_main_v27, val_main_v26, val_main_v25, val_main_v24, val_main_v23, val_main_v22, val_main_cst_3, val_main_cst_4]

/-- Cosine of a row angle. -/
theorem r57 (s : Fin 4096) (j : Fin 32) : val_main_v57 (F := Ideal) (ix2 s j) = Ideal.cos (ang (s.val / 64) j.val) := by
  pointwise [ang, freq, val_main_v57, val_main_v51, val_main_v50, val_main_v49, val_main_v48, val_main_v47, val_main_v46, val_main_v45, val_main_v44, val_main_v43, val_main_v42, val_main_v41, val_main_v36, val_main_v35, val_main_v34, val_main_cst_5, val_main_cst_6]

/-- Sine of a row angle. -/
theorem r58 (s : Fin 4096) (j : Fin 32) : val_main_v58 (F := Ideal) (ix2 s j) = Ideal.sin (ang (s.val / 64) j.val) := by
  pointwise [ang, freq, val_main_v58, val_main_v51, val_main_v50, val_main_v49, val_main_v48, val_main_v47, val_main_v46, val_main_v45, val_main_v44, val_main_v43, val_main_v42, val_main_v41, val_main_v36, val_main_v35, val_main_v34, val_main_cst_5, val_main_cst_6]

/-- Cosine of a column angle. -/
theorem r59 (s : Fin 4096) (j : Fin 32) : val_main_v59 (F := Ideal) (ix2 s j) = Ideal.cos (ang (s.val % 64) j.val) := by
  pointwise [ang, freq, val_main_v59, val_main_v56, val_main_v55, val_main_v54, val_main_v53, val_main_v52, val_main_v46, val_main_v45, val_main_v44, val_main_v43, val_main_v42, val_main_v41, val_main_v40, val_main_v39, val_main_v38, val_main_v37, val_main_cst_5, val_main_cst_6]

/-- Sine of a column angle. -/
theorem r60 (s : Fin 4096) (j : Fin 32) : val_main_v60 (F := Ideal) (ix2 s j) = Ideal.sin (ang (s.val % 64) j.val) := by
  pointwise [ang, freq, val_main_v60, val_main_v56, val_main_v55, val_main_v54, val_main_v53, val_main_v52, val_main_v46, val_main_v45, val_main_v44, val_main_v43, val_main_v42, val_main_v41, val_main_v40, val_main_v39, val_main_v38, val_main_v37, val_main_cst_5, val_main_cst_6]

end Cert.ReferenceIdeal.Att
-- ==== Proof.RefB.lean ====
module
public import proofs.«01_k».proof.Proof.RefA
@[expose] public section
set_option maxRecDepth 16384
noncomputable section
open Idealize.ShloMosaic Idealize.ShloMosaic.TcCoe Idealize.SL.Sem
namespace Cert.ReferenceIdeal.Att
open Cert.ReferenceIdeal Cert.ReferenceIdeal.Gen Cert.ReferenceIdeal.Read Cert.Math

/-- Two halves joined on the last of five axes. -/
theorem cat5 (a c : FVec Ideal S2x4096x2x4x64 .f32) (f : Fin 128 → EReal) (b : Fin 2) (s : Fin 4096) (g : Fin 2) (h : Fin 4)
    (ha : ∀ j : Fin 64, a (ix5 b s g h j) = f ⟨j.val, by have := j.isLt; omega⟩)
    (hc : ∀ j : Fin 64, c (ix5 b s g h j) = f ⟨64 + j.val, by have := j.isLt; omega⟩) (x : Fin 128) :
    concatenate S2x4096x2x4x128 4 [⟨S2x4096x2x4x64, a⟩, ⟨S2x4096x2x4x64, c⟩] concatenates_S2x4096x2x4x64_S2x4096x2x4x64_S2x4096x2x4x128_d4 (ix5 b s g h x) = f x := by
  pointwise
  by_cases h1 : x.val < 64
  · rw [dif_pos h1]; exact ha ⟨x.val, h1⟩
  · rw [dif_neg h1]
    have := x.isLt
    refine (hc ⟨x.val - 64, by omega⟩).trans (congrArg f (Fin.ext (show 64 + (x.val - 64) = x.val by omega)))

/-- Two quarters joined on the last of five axes. -/
theorem cat5' (a c : FVec Ideal S2x4096x2x4x32 .f32) (f : Fin 64 → EReal) (b : Fin 2) (s : Fin 4096) (g : Fin 2) (h : Fin 4)
    (ha : ∀ j : Fin 32, a (ix5 b s g h j) = f ⟨j.val, by have := j.isLt; omega⟩)
    (hc : ∀ j : Fin 32, c (ix5 b s g h j) = f ⟨32 + j.val, by have := j.isLt; omega⟩) (x : Fin 64) :
    concatenate S2x4096x2x4x64 4 [⟨S2x4096x2x4x32, a⟩, ⟨S2x4096x2x4x32, c⟩] concatenates_S2x4096x2x4x32_S2x4096x2x4x32_S2x4096x2x4x64_d4 (ix5 b s g h x) = f x := by
  pointwise
  by_cases h1 : x.val < 32
  · rw [dif_pos h1]; exact ha ⟨x.val, h1⟩
  · rw [dif_neg h1]
    have := x.isLt
    refine (hc ⟨x.val - 32, by omega⟩).trans (congrArg f (Fin.ext (show 32 + (x.val - 32) = x.val by omega)))

/-- Two halves joined on the last of four axes. -/
theorem cat4 (a c : FVec Ideal S2x4096x2x64 .f32) (f : Fin 128 → EReal) (b : Fin 2) (s : Fin 4096) (g : Fin 2)
    (ha : ∀ j : Fin 64, a (ix4 b s g j) = f ⟨j.val, by have := j.isLt; omega⟩)
    (hc : ∀ j : Fin 64, c (ix4 b s g j) = f ⟨64 + j.val, by have := j.isLt; omega⟩) (x : Fin 128) :
    concatenate S2x4096x2x128 3 [⟨S2x4096x2x64, a⟩, ⟨S2x4096x2x64, c⟩] concatenates_S2x4096x2x64_S2x4096x2x64_S2x4096x2x128_d3 (ix4 b s g x) = f x := by
  pointwise
  by_cases h1 : x.val < 64
  · rw [dif_pos h1]; exact ha ⟨x.val, h1⟩
  · rw [dif_neg h1]
    have := x.isLt
    refine (hc ⟨x.val - 64, by omega⟩).trans (congrArg f (Fin.ext (show 64 + (x.val - 64) = x.val by omega)))

/-- Two quarters joined on the last of four axes. -/
theorem cat4' (a c : FVec Ideal S2x4096x2x32 .f32) (f : Fin 64 → EReal) (b : Fin 2) (s : Fin 4096) (g : Fin 2)
    (ha : ∀ j : Fin 32, a (ix4 b s g j) = f ⟨j.val, by have := j.isLt; omega⟩)
    (hc : ∀ j : Fin 32, c (ix4 b s g j) = f ⟨32 + j.val, by have := j.isLt; omega⟩) (x : Fin 64) :
    concatenate S2x4096x2x64 3 [⟨S2x4096x2x32, a⟩, ⟨S2x4096x2x32, c⟩] concatenates_S2x4096x2x32_S2x4096x2x32_S2x4096x2x64_d3 (ix4 b s g x) = f x := by
  pointwise
  by_cases h1 : x.val < 32
  · rw [dif_pos h1]; exact ha ⟨x.val, h1⟩
  · rw [dif_neg h1]
    have := x.isLt
    refine (hc ⟨x.val - 32, by omega⟩).trans (congrArg f (Fin.ext (show 32 + (x.val - 32) = x.val by omega)))

variable (x0 : FVec Ideal S8192x1536 .bf16) (x1 x2 : FVec Ideal S128 .f32)

/-- First quarter of a query. -/
theorem r71 (b : Fin 2) (s : Fin 4096) (g : Fin 2) (h : Fin 4) (j : Fin 32) :
    val_main_v71 (F := Ideal) x0 x1 (ix5 b s g h j) = queryRow (XX x0) (gg x1) b g h s ⟨j.val, by have := j.isLt; omega⟩ := by
  unfold queryRow
  rw [← rot_p0, ← r18, ← r18, ← r57, ← r58]
  pointwise [val_main_v71, val_main_v70, val_main_v69, val_main_v68, val_main_v67, val_main_v66, val_main_v65, val_main_v64, val_main_v63, val_main_v61]

/-- Second quarter of a query. -/
theorem r76 (b : Fin 2) (s : Fin 4096) (g : Fin 2) (h : Fin 4) (j : Fin 32) :
    val_main_v76 (F := Ideal) x0 x1 (ix5 b s g h j) = queryRow (XX x0) (gg x1) b g h s ⟨32 + j.val, by have := j.isLt; omega⟩ := by
  unfold queryRow
  rw [← rot_p1, ← r18, ← r18, ← r57, ← r58]
  pointwise [val_main_v76, val_main_v75, val_main_v74, val_main_v73, val_main_v72, val_main_v66, val_main_v65, val_main_v64, val_main_v63, val_main_v61]

/-- Third quarter of a query. -/
theorem r86 (b : Fin 2) (s : Fin 4096) (g : Fin 2) (h : Fin 4) (j : Fin 32) :
    val_main_v86 (F := Ideal) x0 x1 (ix5 b s g h j) = queryRow (XX x0) (gg x1) b g h s ⟨64 + j.val, by have := j.isLt; omega⟩ := by
  unfold queryRow
  rw [← rot_p2, ← r18, ← r18, ← r59, ← r60]
  pointwise [val_main_v86, val_main_v85, val_main_v84, val_main_v83, val_main_v82, val_main_v81, val_main_v80, val_main_v79, val_main_v78, val_main_v62]
  simp only [show ∀ n : ℕ, 64 + (32 + n) = 96 + n from fun n => by omega]

/-- Last quarter of a query. -/
theorem r91 (b : Fin 2) (s : Fin 4096) (g : Fin 2) (h : Fin 4) (j : Fin 32) :
    val_main_v91 (F := Ideal) x0 x1 (ix5 b s g h j) = queryRow (XX x0) (gg x1) b g h s ⟨96 + j.val, by have := j.isLt; omega⟩ := by
  unfold queryRow
  rw [← rot_p3, ← r18, ← r18, ← r59, ← r60]
  pointwise [val_main_v91, val_main_v90, val_main_v89, val_main_v88, val_main_v87, val_main_v81, val_main_v80, val_main_v79, val_main_v78, val_main_v62]
  simp only [show ∀ n : ℕ, 64 + (32 + n) = 96 + n from fun n => by omega]

/-- A query as the reference turns it. -/
theorem r93 (b : Fin 2) (s : Fin 4096) (g : Fin 2) (h : Fin 4) (d : Fin 128) :
    val_main_v93 (F := Ideal) x0 x1 (ix5 b s g h d) = queryRow (XX x0) (gg x1) b g h s d := by
  unfold val_main_v93
  refine cat5 _ _ _ b s g h (fun j => ?_) (fun j => ?_) d
  · unfold val_main_v77
    exact cat5' _ _ (fun j => queryRow (XX x0) (gg x1) b g h s ⟨j.val, by have := j.isLt; omega⟩) b s g h (r71 x0 x1 b s g h) (r76 x0 x1 b s g h) j
  · unfold val_main_v92
    refine cat5' _ _ (fun j => queryRow (XX x0) (gg x1) b g h s ⟨64 + j.val, by have := j.isLt; omega⟩) b s g h (r86 x0 x1 b s g h) (fun j => ?_) j
    exact (r91 x0 x1 b s g h j).trans (congrArg _ (Fin.ext (show 96 + j.val = 64 + (32 + j.val) by omega)))

/-- First quarter of a key. -/
theorem r104 (b : Fin 2) (s : Fin 4096) (g : Fin 2) (j : Fin 32) :
    val_main_v104 (F := Ideal) x0 x2 (ix4 b s g j) = keyRow (XX x0) (gg x2) b g s ⟨j.val, by have := j.isLt; omega⟩ := by
  unfold keyRow
  rw [← rot_p0, ← r32, ← r32, ← r57, ← r58]
  pointwise [val_main_v104, val_main_v103, val_main_v102, val_main_v101, val_main_v100, val_main_v99, val_main_v98, val_main_v97, val_main_v96, val_main_v94]

/-- Second quarter of a key. -/
theorem r109 (b : Fin 2) (s : Fin 4096) (g : Fin 2) (j : Fin 32) :
    val_main_v109 (F := Ideal) x0 x2 (ix4 b s g j) = keyRow (XX x0) (gg x2) b g s ⟨32 + j.val, by have := j.isLt; omega⟩ := by
  unfold keyRow
  rw [← rot_p1, ← r32, ← r32, ← r57, ← r58]
  pointwise [val_main_v109, val_main_v108, val_main_v107, val_main_v106, val_main_v105, val_main_v99, val_main_v98, val_main_v97, val_main_v96, val_main_v94]

/-- Third quarter of a key. -/
theorem r119 (b : Fin 2) (s : Fin 4096) (g : Fin 2) (j : Fin 32) :
    val_main_v119 (F := Ideal) x0 x2 (ix4 b s g j) = keyRow (XX x0) (gg x2) b g s ⟨64 + j.val, by have := j.isLt; omega⟩ := by
  unfold keyRow
  rw [← rot_p2, ← r32, ← r32, ← r59, ← r60]
  pointwise [val_main_v119, val_main_v118, val_main_v117, val_main_v116, val_main_v115, val_main_v114, val_main_v113, val_main_v112, val_main_v111, val_main_v95]
  simp only [show ∀ n : ℕ, 64 + (32 + n) = 96 + n from fun n => by omega]

/-- Last quarter of a key. -/
theorem r124 (b : Fin 2) (s : Fin 4096) (g : Fin 2) (j : Fin 32) :
    val_main_v124 (F := Ideal) x0 x2 (ix4 b s g j) = keyRow (XX x0) (gg x2) b g s ⟨96 + j.val, by have := j.isLt; omega⟩ := by
  unfold keyRow
  rw [← rot_p3, ← r32, ← r32, ← r59, ← r60]
  pointwise [val_main_v124, val_main_v123, val_main_v122, val_main_v121, val_main_v120, val_main_v114, val_main_v113, val_main_v112, val_main_v111, val_main_v95]
  simp only [show ∀ n : ℕ, 64 + (32 + n) = 96 + n from fun n => by omega]

/-- A key as the reference turns it. -/
theorem r126 (b : Fin 2) (s : Fin 4096) (g : Fin 2) (d : Fin 128) :
    val_main_v126 (F := Ideal) x0 x2 (ix4 b s g d) = keyRow (XX x0) (gg x2) b g s d := by
  unfold val_main_v126
  refine cat4 _ _ _ b s g (fun j => ?_) (fun j => ?_) d
  · unfold val_main_v110
    exact cat4' _ _ (fun j => keyRow (XX x0) (gg x2) b g s ⟨j.val, by have := j.isLt; omega⟩) b s g (r104 x0 x2 b s g) (r109 x0 x2 b s g) j
  · unfold val_main_v125
    refine cat4' _ _ (fun j => keyRow (XX x0) (gg x2) b g s ⟨64 + j.val, by have := j.isLt; omega⟩) b s g (r119 x0 x2 b s g) (fun j => ?_) j
    exact (r124 x0 x2 b s g j).trans (congrArg _ (Fin.ext (show 96 + j.val = 64 + (32 + j.val) by omega)))

/-- A score. -/
theorem r130 (b g : Fin 2) (h : Fin 4) (s k : Fin 4096) :
    val_main_v130 (F := Ideal) x0 x1 x2 (ix5 b g h s k) = score (XX x0) (gg x1) (gg x2) b g h s k := by
  have h1 : val_main_v130 (F := Ideal) x0 x1 x2 (ix5 b g h s k) = val_main_v127 (F := Ideal) x0 x1 x2 (ix5 b g k s h) * Ideal.ofBits FTy.f32 1035273459#32 := by
    pointwise [val_main_v130, val_main_v129, val_main_v128, val_main_cst_7]
  rw [h1, val_main_v127_apply]
  unfold score
  congr 1
  refine Finset.sum_congr rfl fun d _ => ?_
  rw [show lidx_main_v127 (ix5 b g k s h) d = ix4 b k g d from by blk_ext, show ridx_main_v127 (ix5 b g k s h) d = ix5 b s g h d from by blk_ext, r126, r93, mul_comm]

/-- The maximum starts from minus infinity. -/
theorem negInf : Ideal.ofBits FTy.f32 4286578688#32 = (⊥ : EReal) := by
  simp [Ideal.ofBits, Ideal.ieee]

/-- The reference's maximum over the keys. -/
theorem redMax (y : FVec Ideal S2x2x4x4096x4096 .f32) (b g : Fin 2) (h : Fin 4) (s : Fin 4096) :
    (Host.reduce FloatOps.maximumf y (val_main_cst_8 (F := Ideal)) reducesTo_S2x2x4x4096x4096_S2x2x4x4096_d4 h_S_ : FVec Ideal S2x2x4x4096 .f32) (ix4 b g h s)
      = Finset.univ.fold max (⊥ : EReal) fun k => y (ix5 b g h s k) := by
  pointwise [val_main_cst_8]
  rw [negInf]

/-- The largest score of a query, as the reference folds it. -/
theorem r133 (b g : Fin 2) (h : Fin 4) (s : Fin 4096) :
    val_main_v133 (F := Ideal) x0 x1 x2 (ix4 b g h s) = peak (XX x0) (gg x1) (gg x2) b g h s := by
  rw [val_main_v133_apply, val_main_v132_apply, val_main_cst_9_apply]
  unfold val_main_v131
  rw [redMax]
  unfold peak
  simp only [r130]
  refine (congrArg (fun z => max z _) negInf).trans (max_eq_right bot_le)

/-- An exponential. -/
theorem r137 (b g : Fin 2) (h : Fin 4) (s k : Fin 4096) :
    val_main_v137 (F := Ideal) x0 x1 x2 (ix5 b g h s k) = Ideal.exp (score (XX x0) (gg x1) (gg x2) b g h s k - peak (XX x0) (gg x1) (gg x2) b g h s) := by
  rw [← r130, ← r133]
  pointwise [val_main_v137, val_main_v136, val_main_v135, val_main_v134]

/-- A query's weights add up. -/
theorem r138 (b g : Fin 2) (h : Fin 4) (s : Fin 4096) :
    val_main_v138 (F := Ideal) x0 x1 x2 (ix4 b g h s) = ∑ l, Ideal.exp (score (XX x0) (gg x1) (gg x2) b g h s l - peak (XX x0) (gg x1) (gg x2) b g h s) := by
  rw [val_main_v138_apply, show (val_main_cst_10 (F := Ideal)) (Shape.Idx.first h_S_) = (0 : EReal) from by
    show Ideal.ofBits FTy.f32 0x00000000#32 = 0
    simp [Ideal.ofBits, Ideal.ieee], zero_add]
  refine Finset.sum_congr rfl fun l _ => ?_
  rw [show idx_main_v138 (ix4 b g h s) l = ix5 b g h s l from by blk_ext, r137]

/-- A weight. -/
theorem r141 (b g : Fin 2) (h : Fin 4) (s k : Fin 4096) :
    val_main_v141 (F := Ideal) x0 x1 x2 (ix5 b g h s k) = Ideal.div (Ideal.exp (score (XX x0) (gg x1) (gg x2) b g h s k - peak (XX x0) (gg x1) (gg x2) b g h s))
      (∑ l, Ideal.exp (score (XX x0) (gg x1) (gg x2) b g h s l - peak (XX x0) (gg x1) (gg x2) b g h s)) := by
  rw [← r138, ← r137]
  pointwise [val_main_v141, val_main_v140, val_main_v139]

/-- The attention, as the reference computes it. -/
theorem r142 (b g : Fin 2) (d : Fin 128) (h : Fin 4) (s : Fin 4096) :
    val_main_v142 (F := Ideal) x0 x1 x2 (ix5 b g d h s) = att (XX x0) (gg x1) (gg x2) b g h s d := by
  rw [val_main_v142_apply]
  unfold att
  refine Finset.sum_congr rfl fun k _ => ?_
  rw [show lidx_main_v142 (ix5 b g d h s) k = ix4 b k g d from by blk_ext, show ridx_main_v142 (ix5 b g d h s) k = ix5 b g h s k from by blk_ext, r33, r141, mul_comm]

/-- The attention's result. -/
theorem r145 (r : Fin 8192) (e : Fin 1024) :
    val_main_v145 (F := Ideal) x0 x1 x2 (ix2 r e) = att (XX x0) (gg x1) (gg x2)
      ⟨r.val / 4096, by have := r.isLt; omega⟩ ⟨e.val / 512, by have := e.isLt; omega⟩ ⟨e.val / 128 % 4, by omega⟩ ⟨r.val % 4096, by omega⟩ ⟨e.val % 128, by omega⟩ := by
  rw [← r142]
  pointwise [val_main_v145, val_main_v144, val_main_v143]

/-- The first expert table. -/
theorem r148 (x3 : FVec Ideal S2x16384x2048 .f32) (r : Fin 16384) (e : Fin 2048) : val_main_v148 (F := Ideal) x3 (ix2 r e) = x3 (ix3 0 r e) := by
  pointwise [val_main_v148, val_main_v147, val_main_v146]

/-- The second, transposed. -/
theorem r152 (x4 : FVec Ideal S2x16384x2048 .f32) (r : Fin 2048) (e : Fin 16384) : val_main_v152 (F := Ideal) x4 (ix2 r e) = x4 (ix3 0 e r) := by
  pointwise [val_main_v152, val_main_v151, val_main_v150, val_main_v149]

end Cert.ReferenceIdeal.Att
-- ==== Proof.Join.lean ====
module
public import proofs.«01_k».proof.Defs
public import proofs.«01_k».proof.Proof.Arr
public import proofs.«01_k».proof.Proof.RefB
@[expose] public section
set_option maxRecDepth 16384
noncomputable section
open Idealize.ShloMosaic Idealize.ShloMosaic.TcCoe Idealize.SL.Sem Cert.Math
namespace Cert.Join

/-- The broadcast the precondition states: a single number to every column. -/
theorem preFacts : Cert.Pre_gains_finite.Facts where
  bcast_S_S128 := by decide

/-- A number whose size is below infinity is real. -/
theorem real_of_lt (x : EReal) (h : max x (-x) < ⊤) : IsReal x := by
  induction x with
  | bot => simp at h
  | top => simp at h
  | coe r => exact ⟨r, rfl⟩

/-- The bound of the precondition is infinity. -/
theorem inf_top : Ideal.ofBits FTy.f32 0x7F800000#32 = (⊤ : EReal) := by simp [Ideal.ofBits, Ideal.ieee]

/-- The precondition at a column: both gains are real. -/
theorem gains (x0 : FVec Ideal ⟨2, ![8192, 1536]⟩ .bf16) (x1 x2 : FVec Ideal ⟨1, ![128]⟩ .f32) (x3 x4 : FVec Ideal ⟨3, ![2, 16384, 2048]⟩ .f32)
    (h : @Cert.Pre_gains_finite.fn preFacts Ideal _ x0 x1 x2 x3 x4 = fun _ => 1#1) (d : Fin 128) :
    IsReal (x1 (ix1 d)) ∧ IsReal (x2 (ix1 d)) := by
  have h1 := congrFun h (ix1 d)
  revert h1
  pointwise [Cert.Pre_gains_finite.fn]
  rw [show (2139095040#32 : BitVec 32) = 0x7F800000#32 from rfl, inf_top]
  intro h2
  have hb : ∀ p q : Bool, IntOp.andi (BitVec.ofBool p) (BitVec.ofBool q) = 1#1 → p = true ∧ q = true := by decide
  obtain ⟨h3, h4⟩ := hb _ _ h2
  exact ⟨real_of_lt _ (of_decide_eq_true h3), real_of_lt _ (of_decide_eq_true h4)⟩

section
open Cert.KernelIdeal Cert.KernelIdeal.Gen

/-- The attention's array is the reference's. -/
theorem same0 (m : (ℓ : Loc nD τ sig) → Buf (Elt Ideal) ℓ) (c : Dev nD)
    (x0 : FVec Ideal S8192x1536 .bf16) (x1 x2 : FVec Ideal S128 .f32)
    (h0 : x0 = m ((c.tc : Thread nD τ).loc main_arg0)) (h1 : x1 = m ((c.tc : Thread nD τ).loc main_arg1)) (h2 : x2 = m ((c.tc : Thread nD τ).loc main_arg2))
    (hq : ∀ d, IsReal (MixA.wq m c d)) (hk : ∀ d, IsReal (MixA.wk m c d)) :
    (Cert.ReferenceIdeal.Read.val_main_v145 (F := Ideal) x0 x1 x2 : FVec Ideal S8192x1024 .bf16) = (dats m 0 c).arrAt 11 cfg0.N := by
  subst h0 h1 h2
  refine Eq.trans ?_ (MixA.final11 m c hq hk).symm
  funext y
  idx_vars y
  exact Cert.ReferenceIdeal.Att.r145 _ _ _ _ _

/-- The first expert table is the reference's. -/
theorem same1 (m : (ℓ : Loc nD τ sig) → Buf (Elt Ideal) ℓ) (c : Dev nD) (x3 : FVec Ideal S2x16384x2048 .f32)
    (h3 : x3 = m ((c.tc : Thread nD τ).loc main_arg3)) :
    (Cert.ReferenceIdeal.Read.val_main_v148 (F := Ideal) x3 : FVec Ideal S16384x2048 .bf16) = (dats m 0 c).arrAt 12 cfg0.N := by
  subst h3
  refine Eq.trans ?_ (MixA.final12 m c).symm
  funext y
  idx_vars y
  exact Cert.ReferenceIdeal.Att.r148 _ _ _

/-- The second expert table, transposed, is the reference's. -/
theorem same2 (m : (ℓ : Loc nD τ sig) → Buf (Elt Ideal) ℓ) (c : Dev nD) (x4 : FVec Ideal S2x16384x2048 .f32)
    (h4 : x4 = m ((c.tc : Thread nD τ).loc main_arg4)) :
    (Cert.ReferenceIdeal.Read.val_main_v152 (F := Ideal) x4 : FVec Ideal S2048x16384 .bf16) = (dats m 0 c).arrAt 13 cfg0.N := by
  subst h4
  refine Eq.trans ?_ (MixA.final13 m c).symm
  funext y
  idx_vars y
  exact Cert.ReferenceIdeal.Att.r152 _ _ _
end
end Cert.Join
-- ==== Proof.Row.lean ====
module
public import Idealize.ShloMosaic.PureOps.Ideal
@[expose] public section
noncomputable section
open Idealize.ShloMosaic
namespace Cert.Branch
/-- The merged row: each branch's output times its projection, gated, the three added. -/
def merged (oa : Fin 1024 → EReal) (ob : Fin 768 → EReal) (oc : Fin 1024 → EReal) (gl : Fin 6144 → EReal)
    (wa : Fin 1024 → EReal) (wb : Fin 768 → EReal) (wc : Fin 1024 → EReal) (d : Fin 2048) : EReal :=
  Ideal.logistic (gl ⟨d.val, by have := d.isLt; omega⟩) * ∑ k, oa k * wa k
    + Ideal.logistic (gl ⟨2048 + d.val, by have := d.isLt; omega⟩) * ∑ k, ob k * wb k
    + Ideal.logistic (gl ⟨4096 + d.val, by have := d.isLt; omega⟩) * ∑ k, oc k * wc k

/-- A row's mean: its sum over 2048. -/
def mean (h : Fin 2048 → EReal) : EReal := Ideal.div (∑ e, h e) (Ideal.ofBits FTy.f32 0x45000000#32)

/-- A row's layer norm at a column, with the column's gain and bias. -/
def lnorm (h : Fin 2048 → EReal) (g b : EReal) (d : Fin 2048) : EReal :=
  (h d - mean h) * Ideal.rsqrt (mean (fun e => (h e - mean h) * (h e - mean h)) + Ideal.ofBits FTy.f32 0x3727C5AC#32) * g + b

/-- A row of the residual sum: the scaled stream plus one more than the gate times the branch. -/
def resid (x y g : Fin 2048 → EReal) (d : Fin 2048) : EReal :=
  Ideal.ofBits FTy.f32 0x3FB504F3#32 * x d + (1 + g d) * y d
end Cert.Branch
-- ==== Proof.BrRef.lean ====
module
public import proofs.«01_k».proof.Proof.Row
public import proofs.«01_k».proof.Proof.Gen.Reference3Ideal.Read
public import Idealize.ShloMosaic.Lib.Pipeline.ValueKit
@[expose] public section
set_option maxRecDepth 16384
noncomputable section
open Idealize.ShloMosaic Idealize.ShloMosaic.TcCoe Idealize.SL.Sem
namespace Cert.Reference3Ideal.Br
open Cert.Reference3Ideal Cert.Reference3Ideal.Gen Cert.Reference3Ideal.Read Cert.Branch
variable (x0 : FVec Ideal S8192x1024 .bf16) (x1 : FVec Ideal S8192x768 .bf16) (x2 : FVec Ideal S8192x1024 .bf16) (x3 : FVec Ideal S8192x6144 .bf16)
  (x4 : FVec Ideal S2x1024x2048 .f32) (x5 : FVec Ideal S2x768x2048 .f32) (x6 : FVec Ideal S2x1024x2048 .f32)

/-- A token's row. -/
def tok (b : Fin 2) (s : Fin 4096) : Fin 8192 := ⟨b.val * 4096 + s.val, by have := b.isLt; have := s.isLt; omega⟩

/-- The first projection of a token. -/
theorem r4 (b : Fin 2) (s : Fin 4096) (d : Fin 2048) :
    val_main_v4 (F := Ideal) x0 x4 (ix3 b s d) = ∑ k : Fin 1024, x0 (ix2 (tok b s) k) * x4 (ix3 0 k d) := by
  rw [val_main_v4_apply]
  refine Finset.sum_congr rfl fun k _ => ?_
  rw [show lidx_main_v4 (ix3 b s d) k = ix3 b s k from by blk_ext, show ridx_main_v4 (ix3 b s d) k = ix2 k d from by blk_ext]
  congr 1
  · pointwise [val_main_v1, val_main_v0, tok]
  · pointwise [val_main_v3, val_main_v2]

/-- The second. -/
theorem r9 (b : Fin 2) (s : Fin 4096) (d : Fin 2048) :
    val_main_v9 (F := Ideal) x1 x5 (ix3 b s d) = ∑ k : Fin 768, x1 (ix2 (tok b s) k) * x5 (ix3 0 k d) := by
  rw [val_main_v9_apply]
  refine Finset.sum_congr rfl fun k _ => ?_
  rw [show lidx_main_v9 (ix3 b s d) k = ix3 b s k from by blk_ext, show ridx_main_v9 (ix3 b s d) k = ix2 k d from by blk_ext]
  congr 1
  · pointwise [val_main_v6, val_main_v5, tok]
  · pointwise [val_main_v8, val_main_v7]

/-- The third. -/
theorem r14 (b : Fin 2) (s : Fin 4096) (d : Fin 2048) :
    val_main_v14 (F := Ideal) x2 x6 (ix3 b s d) = ∑ k : Fin 1024, x2 (ix2 (tok b s) k) * x6 (ix3 0 k d) := by
  rw [val_main_v14_apply]
  refine Finset.sum_congr rfl fun k _ => ?_
  rw [show lidx_main_v14 (ix3 b s d) k = ix3 b s k from by blk_ext, show ridx_main_v14 (ix3 b s d) k = ix2 k d from by blk_ext]
  congr 1
  · pointwise [val_main_v11, val_main_v10, tok]
  · pointwise [val_main_v13, val_main_v12]

/-- The gate. -/
theorem r22 (b : Fin 2) (s : Fin 4096) (j : Fin 3) (d : Fin 2048) :
    val_main_v22 (F := Ideal) x3 (ix4 b s j d) = Ideal.logistic (x3 (ix2 (tok b s) ⟨j.val * 2048 + d.val, by have := j.isLt; have := d.isLt; omega⟩)) := by
  unfold Ideal.logistic
  pointwise [val_main_v22, val_main_v21, val_main_v20, val_main_v19, val_main_v18, val_main_v17, val_main_v16, val_main_v15, val_main_cst, val_main_cst_0, tok]

/-- The first branch's gate. -/
theorem gate0 (b : Fin 2) (s : Fin 4096) (d : Fin 2048) :
    val_main_v24 (F := Ideal) x3 (ix3 b s d) = Ideal.logistic (x3 (ix2 (tok b s) ⟨d.val, by have := d.isLt; omega⟩)) := by
  refine Eq.trans ?_ ((r22 x3 b s 0 d).trans (congrArg (fun e => Ideal.logistic (x3 (ix2 (tok b s) e))) (Fin.ext (by show 0 * 2048 + d.val = d.val; omega))))
  pointwise [val_main_v24, val_main_v23]

/-- The second's. -/
theorem gate1 (b : Fin 2) (s : Fin 4096) (d : Fin 2048) :
    val_main_v27 (F := Ideal) x3 (ix3 b s d) = Ideal.logistic (x3 (ix2 (tok b s) ⟨2048 + d.val, by have := d.isLt; omega⟩)) := by
  refine Eq.trans ?_ ((r22 x3 b s 1 d).trans (congrArg (fun e => Ideal.logistic (x3 (ix2 (tok b s) e))) (Fin.ext (by show 1 * 2048 + d.val = 2048 + d.val; omega))))
  pointwise [val_main_v27, val_main_v26]

/-- The third's. -/
theorem gate2 (b : Fin 2) (s : Fin 4096) (d : Fin 2048) :
    val_main_v31 (F := Ideal) x3 (ix3 b s d) = Ideal.logistic (x3 (ix2 (tok b s) ⟨4096 + d.val, by have := d.isLt; omega⟩)) := by
  refine Eq.trans ?_ ((r22 x3 b s 2 d).trans (congrArg (fun e => Ideal.logistic (x3 (ix2 (tok b s) e))) (Fin.ext (by show 2 * 2048 + d.val = 4096 + d.val; omega))))
  pointwise [val_main_v31, val_main_v30]

/-- The result. -/
theorem r35 (r : Fin 8192) (d : Fin 2048) :
    val_main_v35 (F := Ideal) x0 x1 x2 x3 x4 x5 x6 (ix2 r d) = merged (fun k => x0 (ix2 r k)) (fun k => x1 (ix2 r k)) (fun k => x2 (ix2 r k)) (fun k => x3 (ix2 r k))
      (fun k => x4 (ix3 0 k d)) (fun k => x5 (ix3 0 k d)) (fun k => x6 (ix3 0 k d)) d := by
  have h : ∀ (b : Fin 2) (s : Fin 4096), val_main_v33 (F := Ideal) x0 x1 x2 x3 x4 x5 x6 (ix3 b s d) = merged (fun k => x0 (ix2 (tok b s) k)) (fun k => x1 (ix2 (tok b s) k)) (fun k => x2 (ix2 (tok b s) k)) (fun k => x3 (ix2 (tok b s) k))
      (fun k => x4 (ix3 0 k d)) (fun k => x5 (ix3 0 k d)) (fun k => x6 (ix3 0 k d)) d := by
    intro b s
    unfold merged
    rw [← r4, ← r9, ← r14, ← gate0, ← gate1, ← gate2]
    rw [val_main_v33_apply, val_main_v32_apply, val_main_v29_apply, val_main_v28_apply, val_main_v25_apply]
    rfl
  have e : tok ⟨r.val / 4096, by have := r.isLt; omega⟩ ⟨r.val % 4096, by omega⟩ = r := Fin.ext (by show r.val / 4096 * 4096 + r.val % 4096 = r.val; omega)
  have := h ⟨r.val / 4096, by have := r.isLt; omega⟩ ⟨r.val % 4096, by omega⟩
  rw [e] at this
  rw [← this]
  pointwise [val_main_v35, val_main_v34]
end Cert.Reference3Ideal.Br
-- ==== Proof.Br.lean ====
module
public import proofs.«01_k».proof.Proof.Row
public import proofs.«01_k».proof.Proof.Gen.Kernel3Ideal.Value
public import Idealize.ShloMosaic.Lib.Pipeline.ValueKit
public import Idealize.ShloMosaic.Lib.Pipeline.ReadBack
public import Idealize.ShloMosaic.Lib.StableHlo.RunRead
@[expose] public section
set_option maxRecDepth 16384
noncomputable section
open Idealize.ShloMosaic Idealize.ShloMosaic.TcCoe Idealize.SL.Sem
namespace Cert.Kernel3Ideal.Br
open Cert.Kernel3Ideal Cert.Kernel3Ideal.Gen Cert.Branch
variable (m : (ℓ : Loc nD τ sig) → Buf (Elt Ideal) ℓ)

/-- The payload at a row and a column. -/
theorem pay_at (oa : Vec Ideal S512x1024 .bf16) (wa : Vec Ideal S1024x2048 .bf16) (ga : Vec Ideal S512x2048 .bf16) (ob : Vec Ideal S512x768 .bf16)
    (wb : Vec Ideal S768x2048 .bf16) (gb : Vec Ideal S512x2048 .bf16) (oc : Vec Ideal S512x1024 .bf16) (wc : Vec Ideal S1024x2048 .bf16)
    (gc : Vec Ideal S512x2048 .bf16) (r : Fin 512) (d : Fin 2048) :
    k0_pay1 oa wa ga ob wb gb oc wc gc (ix2 r d) = Ideal.logistic (ga (ix2 r d)) * ∑ k : Fin 1024, oa (ix2 r k) * wa (ix2 k d)
      + Ideal.logistic (gb (ix2 r d)) * ∑ k : Fin 768, ob (ix2 r k) * wb (ix2 k d)
      + Ideal.logistic (gc (ix2 r d)) * ∑ k : Fin 1024, oc (ix2 r k) * wc (ix2 k d) := by
  pointwise [k0_pay1]

/-- The blocks' places at a point. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![t.val, 0] :=
  (by decide +kernel : ∀ t : Fin grid0.N, _)

/-- The first projection the host hands over. -/
theorem host4 (c : Dev nD) (k : Fin 1024) (d : Fin 2048) :
    (V m c main_v2 : FVec Ideal S1024x2048 .bf16) (ix2 k d) = (m ((c : Thread nD τ).loc main_arg4) : FVec Ideal S2x1024x2048 .f32) (ix3 0 k d) := by
  after_reads_simp
  pointwise

/-- The second. -/
theorem host5 (c : Dev nD) (k : Fin 768) (d : Fin 2048) :
    (V m c main_v5 : FVec Ideal S768x2048 .bf16) (ix2 k d) = (m ((c : Thread nD τ).loc main_arg5) : FVec Ideal S2x768x2048 .f32) (ix3 0 k d) := by
  after_reads_simp
  pointwise

/-- The third. -/
theorem host6 (c : Dev nD) (k : Fin 1024) (d : Fin 2048) :
    (V m c main_v8 : FVec Ideal S1024x2048 .bf16) (ix2 k d) = (m ((c : Thread nD τ).loc main_arg6) : FVec Ideal S2x1024x2048 .f32) (ix3 0 k d) := by
  after_reads_simp
  pointwise

/-- The merged array over the arguments. -/
def G (c : Dev nD) (r : Fin 8192) (d : Fin 2048) : EReal :=
  merged (fun k => (m ((c : Thread nD τ).loc main_arg0) : FVec Ideal S8192x1024 .bf16) (ix2 r k))
    (fun k => (m ((c : Thread nD τ).loc main_arg1) : FVec Ideal S8192x768 .bf16) (ix2 r k))
    (fun k => (m ((c : Thread nD τ).loc main_arg2) : FVec Ideal S8192x1024 .bf16) (ix2 r k))
    (fun k => (m ((c : Thread nD τ).loc main_arg3) : FVec Ideal S8192x6144 .bf16) (ix2 r k))
    (fun k => (m ((c : Thread nD τ).loc main_arg4) : FVec Ideal S2x1024x2048 .f32) (ix3 0 k d))
    (fun k => (m ((c : Thread nD τ).loc main_arg5) : FVec Ideal S2x768x2048 .f32) (ix3 0 k d))
    (fun k => (m ((c : Thread nD τ).loc main_arg6) : FVec Ideal S2x1024x2048 .f32) (ix3 0 k d)) d

/-- The row a point's block row is. -/
def row (t : Fin cfg0.N) (i : Fin 512) : Fin 8192 := ⟨t.val * 512 + i.val, by have h : t.val < 16 := lt_of_lt_of_eq t.isLt N_0; have := i.isLt; omega⟩

/-- The first branch's rows at a point. -/
theorem b0 (c : Dev nD) (t : Fin cfg0.N) (i : Fin 512) (k : Fin 1024) :
    (iblk m c 0 t : FVec Ideal S512x1024 .bf16) (ix2 i k) = (m ((c : Thread nD τ).loc main_arg0) : FVec Ideal S8192x1024 .bf16) (ix2 (row t i) k) := by
  unfold row
  blk_point [iblk, V, idx t]

/-- The second's. -/
theorem b1 (c : Dev nD) (t : Fin cfg0.N) (i : Fin 512) (k : Fin 768) :
    (iblk m c 1 t : FVec Ideal S512x768 .bf16) (ix2 i k) = (m ((c : Thread nD τ).loc main_arg1) : FVec Ideal S8192x768 .bf16) (ix2 (row t i) k) := by
  unfold row
  blk_point [iblk, V, idx t]

/-- The third's. -/
theorem b2 (c : Dev nD) (t : Fin cfg0.N) (i : Fin 512) (k : Fin 1024) :
    (iblk m c 2 t : FVec Ideal S512x1024 .bf16) (ix2 i k) = (m ((c : Thread nD τ).loc main_arg2) : FVec Ideal S8192x1024 .bf16) (ix2 (row t i) k) := by
  unfold row
  blk_point [iblk, V, idx t]

/-- The gates' rows. -/
theorem b3 (c : Dev nD) (t : Fin cfg0.N) (i : Fin 512) (k : Fin 6144) :
    (iblk m c 3 t : FVec Ideal S512x6144 .bf16) (ix2 i k) = (m ((c : Thread nD τ).loc main_arg3) : FVec Ideal S8192x6144 .bf16) (ix2 (row t i) k) := by
  unfold row
  blk_point [iblk, V, idx t]

/-- The first projection at a point. -/
theorem b4 (c : Dev nD) (t : Fin cfg0.N) (k : Fin 1024) (d : Fin 2048) :
    (iblk m c 4 t : FVec Ideal S1024x2048 .bf16) (ix2 k d) = (m ((c : Thread nD τ).loc main_arg4) : FVec Ideal S2x1024x2048 .f32) (ix3 0 k d) := by
  refine Eq.trans ?_ (host4 m c k d)
  blk_point [iblk, idx t]

/-- The second. -/
theorem b5 (c : Dev nD) (t : Fin cfg0.N) (k : Fin 768) (d : Fin 2048) :
    (iblk m c 5 t : FVec Ideal S768x2048 .bf16) (ix2 k d) = (m ((c : Thread nD τ).loc main_arg5) : FVec Ideal S2x768x2048 .f32) (ix3 0 k d) := by
  refine Eq.trans ?_ (host5 m c k d)
  blk_point [iblk, idx t]

/-- The third. -/
theorem b6 (c : Dev nD) (t : Fin cfg0.N) (k : Fin 1024) (d : Fin 2048) :
    (iblk m c 6 t : FVec Ideal S1024x2048 .bf16) (ix2 k d) = (m ((c : Thread nD τ).loc main_arg6) : FVec Ideal S2x1024x2048 .f32) (ix3 0 k d) := by
  refine Eq.trans ?_ (host6 m c k d)
  blk_point [iblk, idx t]

/-- What the body stores, over blocks given by their entries. -/
theorem out_at (x0 : Vec Ideal S512x1024 .bf16) (x1 : Vec Ideal S512x768 .bf16) (x2 : Vec Ideal S512x1024 .bf16) (x3 : Vec Ideal S512x6144 .bf16)
    (x4 : Vec Ideal S1024x2048 .bf16) (x5 : Vec Ideal S768x2048 .bf16) (x6 : Vec Ideal S1024x2048 .bf16) (r : Fin 512) (d : Fin 2048) :
    out0_7 x0 x1 x2 x3 x4 x5 x6 (ix2 r d) = merged (fun k => x0 (ix2 r k)) (fun k => x1 (ix2 r k)) (fun k => x2 (ix2 r k)) (fun k => x3 (ix2 r k))
      (fun k => x4 (ix2 k d)) (fun k => x5 (ix2 k d)) (fun k => x6 (ix2 k d)) d := by
  have e : out0_7 x0 x1 x2 x3 x4 x5 x6 = k0_pay1 x0 x4 (View.ld x3 r0_2) x1 x5 (View.ld x3 r0_5) x2 x6 (View.ld x3 r0_6) := by frame_out
  rw [e, pay_at]
  unfold merged
  congr 1
  · congr 1
    · congr 1
      exact congrArg (fun e => Ideal.logistic (x3 e)) (show r0_2.idx (ix2 r d) = ix2 r _ from funext fun a => match a with
        | 0 => Fin.ext ((Rect.idx_unit_val _ _ _ _ _).trans (Nat.zero_add _))
        | 1 => Fin.ext ((Rect.idx_unit_val _ _ _ _ _).trans (Nat.zero_add _)))
    · congr 1
      exact congrArg (fun e => Ideal.logistic (x3 e)) (show r0_5.idx (ix2 r d) = ix2 r _ from funext fun a => match a with
        | 0 => Fin.ext ((Rect.idx_unit_val _ _ _ _ _).trans (Nat.zero_add _))
        | 1 => Fin.ext (Rect.idx_unit_val _ _ _ _ _))
  · congr 1
    exact congrArg (fun e => Ideal.logistic (x3 e)) (show r0_6.idx (ix2 r d) = ix2 r _ from funext fun a => match a with
        | 0 => Fin.ext ((Rect.idx_unit_val _ _ _ _ _).trans (Nat.zero_add _))
        | 1 => Fin.ext (Rect.idx_unit_val _ _ _ _ _))

/-- What a point writes. -/
theorem wrote (c : Dev nD) (t : Fin cfg0.N) (i : Fin 512) (d : Fin 2048) :
    out0_7 (iblk m c 0 t) (iblk m c 1 t) (iblk m c 2 t) (iblk m c 3 t) (iblk m c 4 t) (iblk m c 5 t) (iblk m c 6 t) (ix2 i d) = G m c (row t i) d := by
  rw [out_at]
  simp only [b0, b1, b2, b3, b4, b5, b6]
  rfl

/-- The merged array. -/
theorem final (c : Dev nD) : ((dats m 0 c).arrAt 7 cfg0.N : FVec Ideal S8192x2048 .bf16) = fun y => G m c (y 0) (y 1) := by
  refine (dats m 0 c).arrAt_eq_of_covers 7 _ (by decide +kernel) fun t hf y => ?_
  blk_simp
  rw [after0_7]
  obtain ⟨-, -, -, -, -, -, -, e⟩ := idx t
  have e0 : win0_7.index t 0 = t.val := congrFun e 0
  have e1 : win0_7.index t 1 = 0 := congrFun e 1
  have hw := wrote m c t ⟨(y 0).val, (y 0).isLt⟩ ⟨(y 1).val, (y 1).isLt⟩
  refine Eq.trans (congrArg (out0_7 (iblk m c 0 t) (iblk m c 1 t) (iblk m c 2 t) (iblk m c 3 t) (iblk m c 4 t) (iblk m c 5 t) (iblk m c 6 t)) ?_) (hw.trans ?_)
  · funext a
    match a with
    | 0 => rfl
    | 1 => rfl
  · refine congrArg₂ (G m c) (Fin.ext (Eq.trans ?_ (win0_7.rect_emb_val t y 0).symm)) (Fin.ext (Eq.trans ?_ (win0_7.rect_emb_val t y 1).symm))
    · rw [e0]; rfl
    · rw [e1]; exact (Nat.zero_add _).symm
end Cert.Kernel3Ideal.Br
-- ==== Proof.OpRef.lean ====
module
public import proofs.«01_k».proof.Proof.Row
public import proofs.«01_k».proof.Proof.Gen.Reference4Ideal.Read
public import Idealize.ShloMosaic.Lib.Pipeline.ValueKit
@[expose] public section
set_option maxRecDepth 16384
noncomputable section
open Idealize.ShloMosaic Idealize.ShloMosaic.TcCoe Idealize.SL.Sem
namespace Cert.Reference4Ideal.Op
open Cert.Reference4Ideal Cert.Reference4Ideal.Gen Cert.Reference4Ideal.Read Cert.Branch
variable (x0 : FVec Ideal S8192x2048 .bf16) (x1 : FVec Ideal S8192x2048 .f32) (x2 : FVec Ideal S2x1x12288 .f32) (x3 x4 : FVec Ideal S2x2048 .f32)
  (x5 : FVec Ideal S2x2048x2048 .f32)

/-- A token's row. -/
def tok (b : Fin 2) (s : Fin 4096) : Fin 8192 := ⟨b.val * 4096 + s.val, by have := b.isLt; have := s.isLt; omega⟩

/-- The row the norm is taken of. -/
def hrow (b : Fin 2) (s : Fin 4096) : Fin 2048 → EReal :=
  resid (fun e => x1 (ix2 (tok b s) e)) (fun e => ∑ k : Fin 2048, x0 (ix2 (tok b s) k) * x5 (ix3 0 k e)) (fun e => x2 (ix3 b 0 ⟨4096 + e.val, by have := e.isLt; omega⟩))

/-- The branch. -/
theorem r11 (b : Fin 2) (s : Fin 4096) (d : Fin 2048) :
    val_main_v11 (F := Ideal) x0 x5 (ix3 b s d) = ∑ k : Fin 2048, x0 (ix2 (tok b s) k) * x5 (ix3 0 k d) := by
  rw [val_main_v11_apply]
  refine Finset.sum_congr rfl fun k _ => ?_
  rw [show lidx_main_v11 (ix3 b s d) k = ix3 b s k from by blk_ext, show ridx_main_v11 (ix3 b s d) k = ix2 k d from by blk_ext]
  congr 1
  · pointwise [val_main_v8, val_main_v7, tok]
  · pointwise [val_main_v10, val_main_v9]

/-- The residual sum. -/
theorem r18 (b : Fin 2) (s : Fin 4096) (d : Fin 2048) : val_main_v18 (F := Ideal) x0 x1 x2 x5 (ix3 b s d) = hrow x0 x1 x2 x5 b s d := by
  unfold hrow resid
  simp only [← r11]
  rw [val_main_v18_apply, val_main_v17_apply]
  generalize val_main_v11 (F := Ideal) x0 x5 (ix3 b s d) = z
  pointwise [val_main_v16, val_main_v15, val_main_v14, val_main_v13, val_main_v12, val_main_v3, val_main_v0, val_main_cst, val_main_cst_0, tok]

/-- The word of a zero is zero. -/
theorem zero : Ideal.ofBits FTy.f32 0x00000000#32 = 0 := by simp [Ideal.ofBits, Ideal.ieee]

/-- The row's sum. -/
theorem r23 (b : Fin 2) (s : Fin 4096) : val_main_v23 (F := Ideal) x0 x1 x2 x5 (ix2 b s) = ∑ e, hrow x0 x1 x2 x5 b s e := by
  rw [val_main_v23_apply, show (val_main_cst_1 (F := Ideal)) (Shape.Idx.first h_S_) = (0 : EReal) from zero, zero_add]
  refine Finset.sum_congr rfl fun e _ => ?_
  rw [show idx_main_v23 (ix2 b s) e = ix3 b s e from by blk_ext, r18]

/-- The row's mean. -/
theorem r26 (b : Fin 2) (s : Fin 4096) : val_main_v26 (F := Ideal) x0 x1 x2 x5 (ix3 b s 0) = mean (hrow x0 x1 x2 x5 b s) := by
  unfold mean
  rw [← r23]
  pointwise [val_main_v26, val_main_v25, val_main_v24, val_main_cst_2]

/-- A centred entry. -/
theorem r35 (b : Fin 2) (s : Fin 4096) (d : Fin 2048) :
    val_main_v35 (F := Ideal) x0 x1 x2 x5 (ix3 b s d) = hrow x0 x1 x2 x5 b s d - mean (hrow x0 x1 x2 x5 b s) := by
  rw [← r18, ← r26]
  pointwise [val_main_v35, val_main_v34]

/-- A centred entry's square. -/
theorem r29 (b : Fin 2) (s : Fin 4096) (d : Fin 2048) :
    val_main_v29 (F := Ideal) x0 x1 x2 x5 (ix3 b s d) = (hrow x0 x1 x2 x5 b s d - mean (hrow x0 x1 x2 x5 b s)) * (hrow x0 x1 x2 x5 b s d - mean (hrow x0 x1 x2 x5 b s)) := by
  rw [← r18, ← r26]
  pointwise [val_main_v29, val_main_v28, val_main_v27]

/-- The squares' mean. -/
theorem r33 (b : Fin 2) (s : Fin 4096) : val_main_v33 (F := Ideal) x0 x1 x2 x5 (ix3 b s 0)
    = mean (fun e => (hrow x0 x1 x2 x5 b s e - mean (hrow x0 x1 x2 x5 b s)) * (hrow x0 x1 x2 x5 b s e - mean (hrow x0 x1 x2 x5 b s))) := by
  have h : val_main_v30 (F := Ideal) x0 x1 x2 x5 (ix2 b s) = ∑ e, (hrow x0 x1 x2 x5 b s e - mean (hrow x0 x1 x2 x5 b s)) * (hrow x0 x1 x2 x5 b s e - mean (hrow x0 x1 x2 x5 b s)) := by
    rw [val_main_v30_apply, show (val_main_cst_3 (F := Ideal)) (Shape.Idx.first h_S_) = (0 : EReal) from zero, zero_add]
    refine Finset.sum_congr rfl fun e _ => ?_
    rw [show idx_main_v30 (ix2 b s) e = ix3 b s e from by blk_ext, r29]
  unfold mean at h ⊢
  rw [← h]
  pointwise [val_main_v33, val_main_v32, val_main_v31, val_main_cst_4]

/-- The norm. -/
theorem r46 (b : Fin 2) (s : Fin 4096) (d : Fin 2048) :
    val_main_v46 (F := Ideal) x0 x1 x2 x3 x4 x5 (ix3 b s d) = lnorm (hrow x0 x1 x2 x5 b s) (x3 (ix2 0 d)) (x4 (ix2 0 d)) d := by
  unfold lnorm
  rw [← r33, ← r35]
  pointwise [val_main_v46, val_main_v45, val_main_v44, val_main_v43, val_main_v42, val_main_v41, val_main_v40, val_main_v39, val_main_v38, val_main_v37, val_main_v36,
    val_main_v22, val_main_v21, val_main_v20, val_main_v19, val_main_cst_5]

/-- The norm over the row itself. -/
theorem r53 (r : Fin 8192) (d : Fin 2048) :
    val_main_v53 (F := Ideal) x0 x1 x2 x3 x4 x5 (ix2 r d) = lnorm (resid (fun e => x1 (ix2 r e)) (fun e => ∑ k : Fin 2048, x0 (ix2 r k) * x5 (ix3 0 k e))
      (fun e => x2 (ix3 ⟨r.val / 4096, by have := r.isLt; omega⟩ 0 ⟨4096 + e.val, by have := e.isLt; omega⟩))) (x3 (ix2 0 d)) (x4 (ix2 0 d)) d := by
  have h := r46 x0 x1 x2 x3 x4 x5 ⟨r.val / 4096, by have := r.isLt; omega⟩ ⟨r.val % 4096, by omega⟩ d
  unfold hrow at h
  rw [show tok ⟨r.val / 4096, by have := r.isLt; omega⟩ ⟨r.val % 4096, by omega⟩ = r from Fin.ext (by show r.val / 4096 * 4096 + r.val % 4096 = r.val; omega)] at h
  rw [← h]
  pointwise [val_main_v53]

/-- The modulated norm. -/
theorem r52 (b : Fin 2) (s : Fin 4096) (d : Fin 2048) :
    val_main_v52 (F := Ideal) x0 x1 x2 x3 x4 x5 (ix3 b s d) = val_main_v46 (F := Ideal) x0 x1 x2 x3 x4 x5 (ix3 b s d) * (1 + x2 (ix3 b 0 ⟨8192 + d.val, by have := d.isLt; omega⟩))
      + x2 (ix3 b 0 ⟨6144 + d.val, by have := d.isLt; omega⟩) := by
  rw [val_main_v52_apply, val_main_v50_apply]
  generalize val_main_v46 (F := Ideal) x0 x1 x2 x3 x4 x5 (ix3 b s d) = z
  pointwise [val_main_v51, val_main_v49, val_main_v48, val_main_v47, val_main_v5, val_main_v4, val_main_cst_6]

/-- The transposed result. -/
theorem r56 (r : Fin 8192) (d : Fin 2048) :
    val_main_v56 (F := Ideal) x0 x1 x2 x3 x4 x5 (ix2 d r) = val_main_v53 (F := Ideal) x0 x1 x2 x3 x4 x5 (ix2 r d) * (1 + x2 (ix3 ⟨r.val / 4096, by have := r.isLt; omega⟩ 0 ⟨8192 + d.val, by have := d.isLt; omega⟩))
      + x2 (ix3 ⟨r.val / 4096, by have := r.isLt; omega⟩ 0 ⟨6144 + d.val, by have := d.isLt; omega⟩) := by
  have h := r52 x0 x1 x2 x3 x4 x5 ⟨r.val / 4096, by have := r.isLt; omega⟩ ⟨r.val % 4096, by omega⟩ d
  refine Eq.trans ?_ (h.trans (congrArg (fun z : EReal => z * _ + _) ?_))
  · pointwise [val_main_v56, val_main_v55, val_main_v54]
  · pointwise [val_main_v53]
end Cert.Reference4Ideal.Op
-- ==== Proof.Op.lean ====
module
public import proofs.«01_k».proof.Proof.Row
public import proofs.«01_k».proof.Proof.Gen.Kernel4Ideal.Value
public import Idealize.ShloMosaic.Lib.Pipeline.ValueKit
public import Idealize.ShloMosaic.Lib.Pipeline.ReadBack
public import Idealize.ShloMosaic.Lib.StableHlo.RunRead
@[expose] public section
set_option maxRecDepth 16384
noncomputable section
open Idealize.ShloMosaic Idealize.ShloMosaic.TcCoe Idealize.SL.Sem
namespace Cert.Kernel4Ideal.Op
open Cert.Kernel4Ideal Cert.Kernel4Ideal.Gen Cert.Branch
variable (m : (ℓ : Loc nD τ sig) → Buf (Elt Ideal) ℓ)

/-- The first payload at a row and a column. -/
theorem pay2_at (a : Vec Ideal S512x2048 .bf16) (w : Vec Ideal S2048x2048 .bf16) (x : Vec Ideal S512x2048 .f32) (g : Vec Ideal S1x1x2048 .f32)
    (lg lb : Vec Ideal S1x2048 .f32) (r : Fin 512) (d : Fin 2048) :
    k0_pay2 a w x g lg lb (ix2 r d) = lnorm (resid (fun e => x (ix2 r e)) (fun e => ∑ k : Fin 2048, a (ix2 r k) * w (ix2 k e)) (fun e => g (ix3 0 0 e)))
      (lg (ix2 0 d)) (lb (ix2 0 d)) d := by
  unfold lnorm mean resid
  pointwise [k0_pay2]

/-- The second payload, transposed. -/
theorem pay1_at (v : FVec Ideal S512x2048 .f32) (sc sh : Vec Ideal S1x1x2048 .f32) (r : Fin 512) (d : Fin 2048) :
    k0_pay1 v sc sh (ix2 d r) = v (ix2 r d) * (1 + sc (ix3 0 0 d)) + sh (ix3 0 0 d) := by
  pointwise [k0_pay1]

/-- The blocks' places at a point. -/
theorem idx : ∀ t : Fin cfg0.N, win0_0.index t = ![t.val, 0] ∧ win0_1.index t = ![t.val, 0] ∧ win0_2.index t = ![t.val / 8, 0, 2] ∧ win0_3.index t = ![t.val / 8, 0, 4]
    ∧ win0_4.index t = ![t.val / 8, 0, 3] ∧ win0_5.index t = ![0, 0] ∧ win0_6.index t = ![0, 0] ∧ win0_7.index t = ![0, 0] ∧ win0_8.index t = ![t.val, 0]
    ∧ win0_9.index t = ![0, t.val] :=
  (by decide +kernel : ∀ t : Fin grid0.N, _)

/-- The gain the host hands over. -/
theorem host5 (c : Dev nD) (d : Fin 2048) :
    (V m c main_v7 : FVec Ideal S1x2048 .f32) (ix2 0 d) = (m ((c : Thread nD τ).loc main_arg3) : FVec Ideal S2x2048 .f32) (ix2 0 d) := by
  after_reads_simp
  pointwise

/-- The bias. -/
theorem host6 (c : Dev nD) (d : Fin 2048) :
    (V m c main_v8 : FVec Ideal S1x2048 .f32) (ix2 0 d) = (m ((c : Thread nD τ).loc main_arg4) : FVec Ideal S2x2048 .f32) (ix2 0 d) := by
  after_reads_simp
  pointwise

/-- The output projection. -/
theorem host7 (c : Dev nD) (k d : Fin 2048) :
    (V m c main_v6 : FVec Ideal S2048x2048 .bf16) (ix2 k d) = (m ((c : Thread nD τ).loc main_arg5) : FVec Ideal S2x2048x2048 .f32) (ix3 0 k d) := by
  after_reads_simp
  pointwise

/-- A row's batch. -/
def bat (r : Fin 8192) : Fin 2 := ⟨r.val / 4096, by have := r.isLt; omega⟩

/-- The modulation, by batch and column. -/
def md (c : Dev nD) (b : Fin 2) (e : Fin 12288) : EReal := (m ((c : Thread nD τ).loc main_arg2) : FVec Ideal S2x1x12288 .f32) (ix3 b 0 e)

/-- A branch's row against a column of the output projection. -/
def br (c : Dev nD) (r : Fin 8192) (e : Fin 2048) : EReal :=
  ∑ k : Fin 2048, (show EReal from (m ((c : Thread nD τ).loc main_arg0) : FVec Ideal S8192x2048 .bf16) (ix2 r k)) * (show EReal from (m ((c : Thread nD τ).loc main_arg5) : FVec Ideal S2x2048x2048 .f32) (ix3 0 k e))

/-- The normed stream over the arguments. -/
def G (c : Dev nD) (r : Fin 8192) (d : Fin 2048) : EReal :=
  lnorm (resid (fun e => (m ((c : Thread nD τ).loc main_arg1) : FVec Ideal S8192x2048 .f32) (ix2 r e))
      (br m c r)
      (fun e => md m c (bat r) ⟨4096 + e.val, by have := e.isLt; omega⟩))
    ((m ((c : Thread nD τ).loc main_arg3) : FVec Ideal S2x2048 .f32) (ix2 0 d))
    ((m ((c : Thread nD τ).loc main_arg4) : FVec Ideal S2x2048 .f32) (ix2 0 d)) d

/-- The modulated stream, transposed. -/
def H (c : Dev nD) (d : Fin 2048) (r : Fin 8192) : EReal :=
  G m c r d * (1 + md m c (bat r) ⟨8192 + d.val, by have := d.isLt; omega⟩) + md m c (bat r) ⟨6144 + d.val, by have := d.isLt; omega⟩

/-- The row a point's block row is. -/
def row (t : Fin cfg0.N) (i : Fin 512) : Fin 8192 := ⟨t.val * 512 + i.val, by have h : t.val < 16 := lt_of_lt_of_eq t.isLt N_0; have := i.isLt; omega⟩

/-- The batch of a point's rows. -/
theorem bat_row (t : Fin cfg0.N) (i : Fin 512) : bat (row t i) = ⟨t.val / 8, by have h : t.val < 16 := lt_of_lt_of_eq t.isLt N_0; omega⟩ := by
  have := i.isLt
  refine Fin.ext ?_
  show (t.val * 512 + i.val) / 4096 = t.val / 8
  omega

/-- The merged rows at a point. -/
theorem b0 (c : Dev nD) (t : Fin cfg0.N) (i : Fin 512) (k : Fin 2048) :
    (iblk m c 0 t : FVec Ideal S512x2048 .bf16) (ix2 i k) = (m ((c : Thread nD τ).loc main_arg0) : FVec Ideal S8192x2048 .bf16) (ix2 (row t i) k) := by
  unfold row
  blk_point [iblk, V, idx t]

/-- The stream's rows at a point. -/
theorem b1 (c : Dev nD) (t : Fin cfg0.N) (i : Fin 512) (k : Fin 2048) :
    (iblk m c 1 t : FVec Ideal S512x2048 .f32) (ix2 i k) = (m ((c : Thread nD τ).loc main_arg1) : FVec Ideal S8192x2048 .f32) (ix2 (row t i) k) := by
  unfold row
  blk_point [iblk, V, idx t]

/-- The gate's row at a point. -/
theorem b2 (c : Dev nD) (t : Fin cfg0.N) (i : Fin 512) (k : Fin 2048) :
    (iblk m c 2 t : FVec Ideal S1x1x2048 .f32) (ix3 0 0 k) = md m c (bat (row t i)) ⟨4096 + k.val, by have := k.isLt; omega⟩ := by
  rw [bat_row]
  unfold md
  blk_point [iblk, V, idx t]

/-- The scale's row at a point. -/
theorem b3 (c : Dev nD) (t : Fin cfg0.N) (i : Fin 512) (k : Fin 2048) :
    (iblk m c 3 t : FVec Ideal S1x1x2048 .f32) (ix3 0 0 k) = md m c (bat (row t i)) ⟨8192 + k.val, by have := k.isLt; omega⟩ := by
  rw [bat_row]
  unfold md
  blk_point [iblk, V, idx t]

/-- The shift's row at a point. -/
theorem b4 (c : Dev nD) (t : Fin cfg0.N) (i : Fin 512) (k : Fin 2048) :
    (iblk m c 4 t : FVec Ideal S1x1x2048 .f32) (ix3 0 0 k) = md m c (bat (row t i)) ⟨6144 + k.val, by have := k.isLt; omega⟩ := by
  rw [bat_row]
  unfold md
  blk_point [iblk, V, idx t]

/-- The gain's row. -/
theorem b5 (c : Dev nD) (t : Fin cfg0.N) (d : Fin 2048) :
    (iblk m c 5 t : FVec Ideal S1x2048 .f32) (ix2 0 d) = (m ((c : Thread nD τ).loc main_arg3) : FVec Ideal S2x2048 .f32) (ix2 0 d) := by
  refine Eq.trans ?_ (host5 m c d)
  blk_point [iblk, idx t]

/-- The bias's row. -/
theorem b6 (c : Dev nD) (t : Fin cfg0.N) (d : Fin 2048) :
    (iblk m c 6 t : FVec Ideal S1x2048 .f32) (ix2 0 d) = (m ((c : Thread nD τ).loc main_arg4) : FVec Ideal S2x2048 .f32) (ix2 0 d) := by
  refine Eq.trans ?_ (host6 m c d)
  blk_point [iblk, idx t]

/-- The output projection at a point. -/
theorem b7 (c : Dev nD) (t : Fin cfg0.N) (k d : Fin 2048) :
    (iblk m c 7 t : FVec Ideal S2048x2048 .bf16) (ix2 k d) = (m ((c : Thread nD τ).loc main_arg5) : FVec Ideal S2x2048x2048 .f32) (ix3 0 k d) := by
  refine Eq.trans ?_ (host7 m c k d)
  blk_point [iblk, idx t]

/-- The first output over whole blocks. -/
theorem whole8 (x0 : Vec Ideal S512x2048 .bf16) (x1 : Vec Ideal S512x2048 .f32) (x2 x3 x4 : Vec Ideal S1x1x2048 .f32) (x5 x6 : Vec Ideal S1x2048 .f32)
    (x7 : Vec Ideal S2048x2048 .bf16) : out0_8 x0 x1 x2 x3 x4 x5 x6 x7 = k0_pay2 x0 x7 x1 x2 x5 x6 := by
  unfold out0_8 k0_pay3
  frame_out

/-- The second output over whole blocks. -/
theorem whole9 (x0 : Vec Ideal S512x2048 .bf16) (x1 : Vec Ideal S512x2048 .f32) (x2 x3 x4 : Vec Ideal S1x1x2048 .f32) (x5 x6 : Vec Ideal S1x2048 .f32)
    (x7 : Vec Ideal S2048x2048 .bf16) : out0_9 x0 x1 x2 x3 x4 x5 x6 x7 = k0_pay1 (k0_pay2 x0 x7 x1 x2 x5 x6) x3 x4 := by
  unfold out0_9 k0_pay3
  frame_out

/-- The norm a point computes. -/
theorem normed (c : Dev nD) (t : Fin cfg0.N) (i : Fin 512) (d : Fin 2048) :
    k0_pay2 (iblk m c 0 t) (iblk m c 7 t) (iblk m c 1 t) (iblk m c 2 t) (iblk m c 5 t) (iblk m c 6 t) (ix2 i d) = G m c (row t i) d := by
  rw [pay2_at]
  simp only [b0, b1, b2 m c t i, b5, b6, b7]
  rfl

/-- What a point writes of the stream. -/
theorem wrote8 (c : Dev nD) (t : Fin cfg0.N) (i : Fin 512) (d : Fin 2048) :
    out0_8 (iblk m c 0 t) (iblk m c 1 t) (iblk m c 2 t) (iblk m c 3 t) (iblk m c 4 t) (iblk m c 5 t) (iblk m c 6 t) (iblk m c 7 t) (ix2 i d) = G m c (row t i) d := by
  rw [whole8, normed]

/-- What a point writes of the transposed input. -/
theorem wrote9 (c : Dev nD) (t : Fin cfg0.N) (i : Fin 512) (d : Fin 2048) :
    out0_9 (iblk m c 0 t) (iblk m c 1 t) (iblk m c 2 t) (iblk m c 3 t) (iblk m c 4 t) (iblk m c 5 t) (iblk m c 6 t) (iblk m c 7 t) (ix2 d i) = H m c d (row t i) := by
  rw [whole9, pay1_at, normed, b3 m c t i, b4 m c t i]
  rfl

/-- The stream's array. -/
theorem final8 (c : Dev nD) : ((dats m 0 c).arrAt 8 cfg0.N : FVec Ideal S8192x2048 .f32) = fun y => G m c (y 0) (y 1) := by
  refine (dats m 0 c).arrAt_eq_of_covers 8 _ (by decide +kernel) fun t hf y => ?_
  blk_simp
  rw [after0_8]
  obtain ⟨-, -, -, -, -, -, -, -, e, -⟩ := idx t
  have e0 : win0_8.index t 0 = t.val := congrFun e 0
  have e1 : win0_8.index t 1 = 0 := congrFun e 1
  have hw := wrote8 m c t ⟨(y 0).val, (y 0).isLt⟩ ⟨(y 1).val, (y 1).isLt⟩
  refine Eq.trans (congrArg (out0_8 (iblk m c 0 t) (iblk m c 1 t) (iblk m c 2 t) (iblk m c 3 t) (iblk m c 4 t) (iblk m c 5 t) (iblk m c 6 t) (iblk m c 7 t)) ?_) (hw.trans ?_)
  · funext a
    match a with
    | 0 => rfl
    | 1 => rfl
  · refine congrArg₂ (G m c) (Fin.ext (Eq.trans ?_ (win0_8.rect_emb_val t y 0).symm)) (Fin.ext (Eq.trans ?_ (win0_8.rect_emb_val t y 1).symm))
    · rw [e0]; rfl
    · rw [e1]; exact (Nat.zero_add _).symm

/-- The transposed array. -/
theorem final9 (c : Dev nD) : ((dats m 0 c).arrAt 9 cfg0.N : FVec Ideal S2048x8192 .bf16) = fun y => H m c (y 0) (y 1) := by
  refine (dats m 0 c).arrAt_eq_of_covers 9 _ (by decide +kernel) fun t hf y => ?_
  blk_simp
  rw [after0_9]
  obtain ⟨-, -, -, -, -, -, -, -, -, e⟩ := idx t
  have e0 : win0_9.index t 0 = 0 := congrFun e 0
  have e1 : win0_9.index t 1 = t.val := congrFun e 1
  have hw := wrote9 m c t ⟨(y 1).val, (y 1).isLt⟩ ⟨(y 0).val, (y 0).isLt⟩
  refine Eq.trans (congrArg (out0_9 (iblk m c 0 t) (iblk m c 1 t) (iblk m c 2 t) (iblk m c 3 t) (iblk m c 4 t) (iblk m c 5 t) (iblk m c 6 t) (iblk m c 7 t)) ?_) (hw.trans ?_)
  · funext a
    match a with
    | 0 => rfl
    | 1 => rfl
  · refine congrArg₂ (H m c) (Fin.ext (Eq.trans ?_ (win0_9.rect_emb_val t y 0).symm)) (Fin.ext (Eq.trans ?_ (win0_9.rect_emb_val t y 1).symm))
    · rw [e0]; exact (Nat.zero_add _).symm
    · rw [e1]; rfl
end Cert.Kernel4Ideal.Op
-- ==== Proof.RlRef.lean ====
module
public import proofs.«01_k».proof.Proof.Row
public import proofs.«01_k».proof.Proof.Gen.Reference5Ideal.Read
public import Idealize.ShloMosaic.Lib.Pipeline.ValueKit
@[expose] public section
set_option maxRecDepth 16384
noncomputable section
open Idealize.ShloMosaic Idealize.ShloMosaic.TcCoe Idealize.SL.Sem
namespace Cert.Reference5Ideal.Rl
open Cert.Reference5Ideal Cert.Reference5Ideal.Gen Cert.Reference5Ideal.Read Cert.Branch
variable (x0 : FVec Ideal S8192x2048 .f32) (x1 : FVec Ideal S2048x8192 .f32) (x2 : FVec Ideal S2x1x12288 .f32) (x3 x4 : FVec Ideal S2x2048 .f32)

/-- A token's row. -/
def tok (b : Fin 2) (s : Fin 4096) : Fin 8192 := ⟨b.val * 4096 + s.val, by have := b.isLt; have := s.isLt; omega⟩

/-- The row the norm is taken of. -/
def hrow (b : Fin 2) (s : Fin 4096) : Fin 2048 → EReal :=
  resid (fun e => x0 (ix2 (tok b s) e)) (fun e => x1 (ix2 e (tok b s))) (fun e => x2 (ix3 b 0 ⟨10240 + e.val, by have := e.isLt; omega⟩))

/-- The residual sum. -/
theorem r15 (b : Fin 2) (s : Fin 4096) (d : Fin 2048) : val_main_v15 (F := Ideal) x0 x1 x2 (ix3 b s d) = hrow x0 x1 x2 b s d := by
  unfold hrow resid
  pointwise [val_main_v15, val_main_v14, val_main_v13, val_main_v12, val_main_v11, val_main_v10, val_main_v9, val_main_v8, val_main_v2, val_main_v1, val_main_v0, val_main_cst, val_main_cst_0, tok]

/-- The word of a zero is zero. -/
theorem zero : Ideal.ofBits FTy.f32 0x00000000#32 = 0 := by simp [Ideal.ofBits, Ideal.ieee]

/-- The row's sum. -/
theorem r20 (b : Fin 2) (s : Fin 4096) : val_main_v20 (F := Ideal) x0 x1 x2 (ix2 b s) = ∑ e, hrow x0 x1 x2 b s e := by
  rw [val_main_v20_apply, show (val_main_cst_1 (F := Ideal)) (Shape.Idx.first h_S_) = (0 : EReal) from zero, zero_add]
  refine Finset.sum_congr rfl fun e _ => ?_
  rw [show idx_main_v20 (ix2 b s) e = ix3 b s e from by blk_ext, r15]

/-- The row's mean. -/
theorem r23 (b : Fin 2) (s : Fin 4096) : val_main_v23 (F := Ideal) x0 x1 x2 (ix3 b s 0) = mean (hrow x0 x1 x2 b s) := by
  unfold mean
  rw [← r20]
  pointwise [val_main_v23, val_main_v22, val_main_v21, val_main_cst_2]

/-- A centred entry. -/
theorem r32 (b : Fin 2) (s : Fin 4096) (d : Fin 2048) :
    val_main_v32 (F := Ideal) x0 x1 x2 (ix3 b s d) = hrow x0 x1 x2 b s d - mean (hrow x0 x1 x2 b s) := by
  rw [← r15, ← r23]
  pointwise [val_main_v32, val_main_v31]

/-- A centred entry's square. -/
theorem r26 (b : Fin 2) (s : Fin 4096) (d : Fin 2048) :
    val_main_v26 (F := Ideal) x0 x1 x2 (ix3 b s d) = (hrow x0 x1 x2 b s d - mean (hrow x0 x1 x2 b s)) * (hrow x0 x1 x2 b s d - mean (hrow x0 x1 x2 b s)) := by
  rw [← r15, ← r23]
  pointwise [val_main_v26, val_main_v25, val_main_v24]

/-- The squares' mean. -/
theorem r30 (b : Fin 2) (s : Fin 4096) : val_main_v30 (F := Ideal) x0 x1 x2 (ix3 b s 0)
    = mean (fun e => (hrow x0 x1 x2 b s e - mean (hrow x0 x1 x2 b s)) * (hrow x0 x1 x2 b s e - mean (hrow x0 x1 x2 b s))) := by
  have h : val_main_v27 (F := Ideal) x0 x1 x2 (ix2 b s) = ∑ e, (hrow x0 x1 x2 b s e - mean (hrow x0 x1 x2 b s)) * (hrow x0 x1 x2 b s e - mean (hrow x0 x1 x2 b s)) := by
    rw [val_main_v27_apply, show (val_main_cst_3 (F := Ideal)) (Shape.Idx.first h_S_) = (0 : EReal) from zero, zero_add]
    refine Finset.sum_congr rfl fun e _ => ?_
    rw [show idx_main_v27 (ix2 b s) e = ix3 b s e from by blk_ext, r26]
  unfold mean at h ⊢
  rw [← h]
  pointwise [val_main_v30, val_main_v29, val_main_v28, val_main_cst_4]

/-- The norm. -/
theorem r43 (b : Fin 2) (s : Fin 4096) (d : Fin 2048) :
    val_main_v43 (F := Ideal) x0 x1 x2 x3 x4 (ix3 b s d) = lnorm (hrow x0 x1 x2 b s) (x3 (ix2 0 d)) (x4 (ix2 0 d)) d := by
  unfold lnorm
  rw [← r30, ← r32]
  pointwise [val_main_v43, val_main_v42, val_main_v41, val_main_v40, val_main_v39, val_main_v38, val_main_v37, val_main_v36, val_main_v35, val_main_v34, val_main_v33,
    val_main_v19, val_main_v18, val_main_v17, val_main_v16, val_main_cst_5]

/-- The result. -/
theorem r44 (r : Fin 8192) (d : Fin 2048) :
    val_main_v44 (F := Ideal) x0 x1 x2 x3 x4 (ix2 r d) = lnorm (hrow x0 x1 x2 ⟨r.val / 4096, by have := r.isLt; omega⟩ ⟨r.val % 4096, by omega⟩) (x3 (ix2 0 d)) (x4 (ix2 0 d)) d := by
  rw [← r43]
  pointwise [val_main_v44]

/-- The result over the row itself. -/
theorem r44' (r : Fin 8192) (d : Fin 2048) :
    val_main_v44 (F := Ideal) x0 x1 x2 x3 x4 (ix2 r d) = lnorm (resid (fun e => x0 (ix2 r e)) (fun e => x1 (ix2 e r))
      (fun e => x2 (ix3 ⟨r.val / 4096, by have := r.isLt; omega⟩ 0 ⟨10240 + e.val, by have := e.isLt; omega⟩))) (x3 (ix2 0 d)) (x4 (ix2 0 d)) d := by
  rw [r44]
  unfold hrow
  rw [show tok ⟨r.val / 4096, by have := r.isLt; omega⟩ ⟨r.val % 4096, by omega⟩ = r from Fin.ext (by show r.val / 4096 * 4096 + r.val % 4096 = r.val; omega)]
end Cert.Reference5Ideal.Rl
-- ==== Proof.Rl.lean ====
module
public import proofs.«01_k».proof.Proof.Row
public import proofs.«01_k».proof.Proof.Gen.Kernel5Ideal.Value
public import Idealize.ShloMosaic.Lib.Pipeline.ValueKit
public import Idealize.ShloMosaic.Lib.Pipeline.ReadBack
public import Idealize.ShloMosaic.Lib.StableHlo.RunRead
@[expose] public section
set_option maxRecDepth 16384
noncomputable section
open Idealize.ShloMosaic Idealize.ShloMosaic.TcCoe Idealize.SL.Sem
namespace Cert.Kernel5Ideal.Rl
open Cert.Kernel5Ideal Cert.Kernel5Ideal.Gen Cert.Branch
variable (m : (ℓ : Loc nD τ sig) → Buf (Elt Ideal) ℓ)

/-- The payload at a row and a column. -/
theorem pay_at (x : Vec Ideal S512x2048 .f32) (g : Vec Ideal S1x1x2048 .f32) (y : Vec Ideal S2048x512 .f32) (lg lb : Vec Ideal S1x2048 .f32) (r : Fin 512) (d : Fin 2048) :
    k0_pay1 x g y lg lb (ix2 r d) = lnorm (resid (fun e => x (ix2 r e)) (fun e => y (ix2 e r)) (fun e => g (ix3 0 0 e))) (lg (ix2 0 d)) (lb (ix2 0 d)) d := by
  unfold lnorm mean resid
  pointwise [k0_pay1]

/-- The blocks' places at a point. -/
theorem idx : ∀ t : Fin cfg0.N, win0_0.index t = ![t.val, 0] ∧ win0_1.index t = ![0, t.val] ∧ win0_2.index t = ![t.val / 8, 0, 5] ∧ win0_3.index t = ![0, 0]
    ∧ win0_4.index t = ![0, 0] ∧ win0_5.index t = ![t.val, 0] :=
  (by decide +kernel : ∀ t : Fin grid0.N, _)

/-- The gain the host hands over. -/
theorem host3 (c : Dev nD) (d : Fin 2048) :
    (V m c main_v4 : FVec Ideal S1x2048 .f32) (ix2 0 d) = (m ((c : Thread nD τ).loc main_arg3) : FVec Ideal S2x2048 .f32) (ix2 0 d) := by
  after_reads_simp
  pointwise

/-- The bias. -/
theorem host4 (c : Dev nD) (d : Fin 2048) :
    (V m c main_v5 : FVec Ideal S1x2048 .f32) (ix2 0 d) = (m ((c : Thread nD τ).loc main_arg4) : FVec Ideal S2x2048 .f32) (ix2 0 d) := by
  after_reads_simp
  pointwise

/-- A row's batch. -/
def bat (r : Fin 8192) : Fin 2 := ⟨r.val / 4096, by have := r.isLt; omega⟩

/-- The result over the arguments. -/
def G (c : Dev nD) (r : Fin 8192) (d : Fin 2048) : EReal :=
  lnorm (resid (fun e => (m ((c : Thread nD τ).loc main_arg0) : FVec Ideal S8192x2048 .f32) (ix2 r e))
      (fun e => (m ((c : Thread nD τ).loc main_arg1) : FVec Ideal S2048x8192 .f32) (ix2 e r))
      (fun e => (m ((c : Thread nD τ).loc main_arg2) : FVec Ideal S2x1x12288 .f32) (ix3 (bat r) 0 ⟨10240 + e.val, by have := e.isLt; omega⟩)))
    ((m ((c : Thread nD τ).loc main_arg3) : FVec Ideal S2x2048 .f32) (ix2 0 d))
    ((m ((c : Thread nD τ).loc main_arg4) : FVec Ideal S2x2048 .f32) (ix2 0 d)) d

/-- The row a point's block row is. -/
def row (t : Fin cfg0.N) (i : Fin 512) : Fin 8192 := ⟨t.val * 512 + i.val, by have h : t.val < 16 := lt_of_lt_of_eq t.isLt N_0; have := i.isLt; omega⟩

/-- The batch of a point's rows. -/
theorem bat_row (t : Fin cfg0.N) (i : Fin 512) : (bat (row t i)).val = t.val / 8 := by
  have := i.isLt
  show (t.val * 512 + i.val) / 4096 = t.val / 8
  omega

/-- The stream's rows at a point. -/
theorem b0 (c : Dev nD) (t : Fin cfg0.N) (i : Fin 512) (k : Fin 2048) :
    (iblk m c 0 t : FVec Ideal S512x2048 .f32) (ix2 i k) = (m ((c : Thread nD τ).loc main_arg0) : FVec Ideal S8192x2048 .f32) (ix2 (row t i) k) := by
  unfold row
  blk_point [iblk, V, idx t]

/-- The transposed branch's columns at a point. -/
theorem b1 (c : Dev nD) (t : Fin cfg0.N) (i : Fin 512) (k : Fin 2048) :
    (iblk m c 1 t : FVec Ideal S2048x512 .f32) (ix2 k i) = (m ((c : Thread nD τ).loc main_arg1) : FVec Ideal S2048x8192 .f32) (ix2 k (row t i)) := by
  unfold row
  blk_point [iblk, V, idx t]

/-- The gate's row at a point. -/
theorem b2 (c : Dev nD) (t : Fin cfg0.N) (i : Fin 512) (k : Fin 2048) :
    (iblk m c 2 t : FVec Ideal S1x1x2048 .f32) (ix3 0 0 k)
      = (m ((c : Thread nD τ).loc main_arg2) : FVec Ideal S2x1x12288 .f32) (ix3 (bat (row t i)) 0 ⟨10240 + k.val, by have := k.isLt; omega⟩) := by
  rw [show bat (row t i) = ⟨t.val / 8, by have h : t.val < 16 := lt_of_lt_of_eq t.isLt N_0; omega⟩ from Fin.ext (bat_row t i)]
  blk_point [iblk, V, idx t]

/-- The gain's row. -/
theorem b3 (c : Dev nD) (t : Fin cfg0.N) (d : Fin 2048) :
    (iblk m c 3 t : FVec Ideal S1x2048 .f32) (ix2 0 d) = (m ((c : Thread nD τ).loc main_arg3) : FVec Ideal S2x2048 .f32) (ix2 0 d) := by
  refine Eq.trans ?_ (host3 m c d)
  blk_point [iblk, idx t]

/-- The bias's row. -/
theorem b4 (c : Dev nD) (t : Fin cfg0.N) (d : Fin 2048) :
    (iblk m c 4 t : FVec Ideal S1x2048 .f32) (ix2 0 d) = (m ((c : Thread nD τ).loc main_arg4) : FVec Ideal S2x2048 .f32) (ix2 0 d) := by
  refine Eq.trans ?_ (host4 m c d)
  blk_point [iblk, idx t]

/-- What a point writes. -/
theorem wrote (c : Dev nD) (t : Fin cfg0.N) (i : Fin 512) (d : Fin 2048) :
    out0_5 (iblk m c 0 t) (iblk m c 1 t) (iblk m c 2 t) (iblk m c 3 t) (iblk m c 4 t) (ix2 i d) = G m c (row t i) d := by
  have e : ∀ (x0 : Vec Ideal S512x2048 .f32) (x1 : Vec Ideal S2048x512 .f32) (x2 : Vec Ideal S1x1x2048 .f32) (x3 x4 : Vec Ideal S1x2048 .f32),
      out0_5 x0 x1 x2 x3 x4 = k0_pay1 x0 x2 x1 x3 x4 := by
    intro x0 x1 x2 x3 x4
    frame_out
  rw [e, pay_at]
  simp only [b0, b1, b2 m c t i, b3, b4]
  rfl

/-- The result's array. -/
theorem final (c : Dev nD) : ((dats m 0 c).arrAt 5 cfg0.N : FVec Ideal S8192x2048 .f32) = fun y => G m c (y 0) (y 1) := by
  refine (dats m 0 c).arrAt_eq_of_covers 5 _ (by decide +kernel) fun t hf y => ?_
  blk_simp
  rw [after0_5]
  obtain ⟨-, -, -, -, -, e⟩ := idx t
  have e0 : win0_5.index t 0 = t.val := congrFun e 0
  have e1 : win0_5.index t 1 = 0 := congrFun e 1
  have hw := wrote m c t ⟨(y 0).val, (y 0).isLt⟩ ⟨(y 1).val, (y 1).isLt⟩
  refine Eq.trans (congrArg (out0_5 (iblk m c 0 t) (iblk m c 1 t) (iblk m c 2 t) (iblk m c 3 t) (iblk m c 4 t)) ?_) (hw.trans ?_)
  · funext a
    match a with
    | 0 => rfl
    | 1 => rfl
  · refine congrArg₂ (G m c) (Fin.ext (Eq.trans ?_ (win0_5.rect_emb_val t y 0).symm)) (Fin.ext (Eq.trans ?_ (win0_5.rect_emb_val t y 1).symm))
    · rw [e0]; rfl
    · rw [e1]; exact (Nat.zero_add _).symm
end Cert.Kernel5Ideal.Rl
-- ==== Proof.Join2.lean ====
module
public import proofs.«01_k».proof.Proof.BrRef
public import proofs.«01_k».proof.Proof.Br
public import proofs.«01_k».proof.Proof.OpRef
public import proofs.«01_k».proof.Proof.Op
public import proofs.«01_k».proof.Proof.RlRef
public import proofs.«01_k».proof.Proof.Rl
@[expose] public section
set_option maxRecDepth 16384
noncomputable section
open Idealize.ShloMosaic Idealize.ShloMosaic.TcCoe Idealize.SL.Sem
namespace Cert.Join

section
open Cert.Kernel3Ideal Cert.Kernel3Ideal.Gen

/-- The merged branches are the reference's. -/
theorem merge (m : (ℓ : Loc nD τ sig) → Buf (Elt Ideal) ℓ) (c : Dev nD) (x0 : FVec Ideal S8192x1024 .bf16) (x1 : FVec Ideal S8192x768 .bf16) (x2 : FVec Ideal S8192x1024 .bf16) (x3 : FVec Ideal S8192x6144 .bf16) (x4 : FVec Ideal S2x1024x2048 .f32) (x5 : FVec Ideal S2x768x2048 .f32) (x6 : FVec Ideal S2x1024x2048 .f32)
    (h0 : x0 = m ((c.tc : Thread nD τ).loc main_arg0)) (h1 : x1 = m ((c.tc : Thread nD τ).loc main_arg1)) (h2 : x2 = m ((c.tc : Thread nD τ).loc main_arg2)) (h3 : x3 = m ((c.tc : Thread nD τ).loc main_arg3)) (h4 : x4 = m ((c.tc : Thread nD τ).loc main_arg4)) (h5 : x5 = m ((c.tc : Thread nD τ).loc main_arg5)) (h6 : x6 = m ((c.tc : Thread nD τ).loc main_arg6)) :
    (Cert.Reference3Ideal.Read.val_main_v35 (F := Ideal) x0 x1 x2 x3 x4 x5 x6 : FVec Ideal S8192x2048 .bf16) = (dats m 0 c).arrAt 7 cfg0.N := by
  subst h0 h1 h2 h3 h4 h5 h6
  refine Eq.trans ?_ (Br.final m c).symm
  funext y
  idx_vars y
  exact Cert.Reference3Ideal.Br.r35 _ _ _ _ _ _ _ _ _

end

section
open Cert.Kernel4Ideal Cert.Kernel4Ideal.Gen

/-- The stream after the first norm is the reference's. -/
theorem proj0 (m : (ℓ : Loc nD τ sig) → Buf (Elt Ideal) ℓ) (c : Dev nD) (x0 : FVec Ideal S8192x2048 .bf16) (x1 : FVec Ideal S8192x2048 .f32) (x2 : FVec Ideal S2x1x12288 .f32) (x3 : FVec Ideal S2x2048 .f32) (x4 : FVec Ideal S2x2048 .f32) (x5 : FVec Ideal S2x2048x2048 .f32)
    (h0 : x0 = m ((c.tc : Thread nD τ).loc main_arg0)) (h1 : x1 = m ((c.tc : Thread nD τ).loc main_arg1)) (h2 : x2 = m ((c.tc : Thread nD τ).loc main_arg2)) (h3 : x3 = m ((c.tc : Thread nD τ).loc main_arg3)) (h4 : x4 = m ((c.tc : Thread nD τ).loc main_arg4)) (h5 : x5 = m ((c.tc : Thread nD τ).loc main_arg5)) :
    (Cert.Reference4Ideal.Read.val_main_v53 (F := Ideal) x0 x1 x2 x3 x4 x5 : FVec Ideal S8192x2048 .f32) = (dats m 0 c).arrAt 8 cfg0.N := by
  subst h0 h1 h2 h3 h4 h5
  refine Eq.trans ?_ (Op.final8 m c).symm
  funext y
  idx_vars y
  exact Cert.Reference4Ideal.Op.r53 _ _ _ _ _ _ _ _

/-- The transposed input of the experts is the reference's. -/
theorem proj1 (m : (ℓ : Loc nD τ sig) → Buf (Elt Ideal) ℓ) (c : Dev nD) (x0 : FVec Ideal S8192x2048 .bf16) (x1 : FVec Ideal S8192x2048 .f32) (x2 : FVec Ideal S2x1x12288 .f32) (x3 : FVec Ideal S2x2048 .f32) (x4 : FVec Ideal S2x2048 .f32) (x5 : FVec Ideal S2x2048x2048 .f32)
    (h0 : x0 = m ((c.tc : Thread nD τ).loc main_arg0)) (h1 : x1 = m ((c.tc : Thread nD τ).loc main_arg1)) (h2 : x2 = m ((c.tc : Thread nD τ).loc main_arg2)) (h3 : x3 = m ((c.tc : Thread nD τ).loc main_arg3)) (h4 : x4 = m ((c.tc : Thread nD τ).loc main_arg4)) (h5 : x5 = m ((c.tc : Thread nD τ).loc main_arg5)) :
    (Cert.Reference4Ideal.Read.val_main_v56 (F := Ideal) x0 x1 x2 x3 x4 x5 : FVec Ideal S2048x8192 .bf16) = (dats m 0 c).arrAt 9 cfg0.N := by
  subst h0 h1 h2 h3 h4 h5
  refine Eq.trans ?_ (Op.final9 m c).symm
  funext y
  idx_vars y
  exact (Cert.Reference4Ideal.Op.r56 _ _ _ _ _ _ _ _).trans (congrArg (fun z : EReal => z * _ + _) (Cert.Reference4Ideal.Op.r53 _ _ _ _ _ _ _ _))

end

section
open Cert.Kernel5Ideal Cert.Kernel5Ideal.Gen

/-- The last norm is the reference's. -/
theorem last (m : (ℓ : Loc nD τ sig) → Buf (Elt Ideal) ℓ) (c : Dev nD) (x0 : FVec Ideal S8192x2048 .f32) (x1 : FVec Ideal S2048x8192 .f32) (x2 : FVec Ideal S2x1x12288 .f32) (x3 : FVec Ideal S2x2048 .f32) (x4 : FVec Ideal S2x2048 .f32)
    (h0 : x0 = m ((c.tc : Thread nD τ).loc main_arg0)) (h1 : x1 = m ((c.tc : Thread nD τ).loc main_arg1)) (h2 : x2 = m ((c.tc : Thread nD τ).loc main_arg2)) (h3 : x3 = m ((c.tc : Thread nD τ).loc main_arg3)) (h4 : x4 = m ((c.tc : Thread nD τ).loc main_arg4)) :
    (Cert.Reference5Ideal.Read.val_main_v44 (F := Ideal) x0 x1 x2 x3 x4 : FVec Ideal S8192x2048 .f32) = (dats m 0 c).arrAt 5 cfg0.N := by
  subst h0 h1 h2 h3 h4
  refine Eq.trans ?_ (Rl.final m c).symm
  funext y
  idx_vars y
  exact Cert.Reference5Ideal.Rl.r44' _ _ _ _ _ _ _

end
end Cert.Join
-- ==== Proof.InMath.lean ====
/- The input projection over one token: the modulated row times a column of the weights. -/
module
public import Idealize.ShloMosaic.PureOps.Ideal
@[expose] public section
noncomputable section
namespace Cert.In
/-- A row modulated by its scale and shift, times a column. -/
def proj (x sc sh w : Fin 2048 → EReal) : EReal := ∑ k, (x k * (1 + sc k) + sh k) * w k

/-- The column `k` of the `j`-th sixth of the modulation. -/
def sixth (j : Fin 6) (k : Fin 2048) : Fin 12288 := ⟨j.val * 2048 + k.val, by have := j.isLt; have := k.isLt; omega⟩
end Cert.In
-- ==== Proof.InRun.lean ====
/- The input projection's body at one grid point, run on any staging buffers: what each of its five cases leaves behind. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.TableIdle
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384

noncomputable section

namespace Cert.In

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- A load of the whole buffer reads what the buffer reads. -/
theorem load_whole {sg : RefSig} {κ : Kind} {sp : Space} {s : Shape} {e : EltTy} {Val : EltTy → Type} (v : View sg κ sp s e) (f : v.ty.Contents Val)
    {off : Fin s.rank → ℕ} (h : ∀ a, off a = 0) (inb : ∀ a, off a + s.size a ≤ s.size a) :
    v.readAt Val (Rect.unit off s.size inb).toLoadRect f = v.read Val f := by
  funext y
  rw [View.readAt_apply]
  congr 1
  funext a
  refine Fin.ext ?_
  show off a + 1 * (y a).val = (y a).val
  rw [h a, Nat.zero_add, Nat.one_mul]

/-- A store of the whole buffer, read back, is what was stored. -/
theorem store_whole {sg : RefSig} {κ : Kind} {sp : Space} {s : Shape} {e : EltTy} {Val : EltTy → Type} (v : View sg κ sp s e) (f : v.ty.Contents Val)
    {off : Fin s.rank → ℕ} (h : ∀ a, off a = 0) (inb : ∀ a, off a + s.size a ≤ s.size a) (w : s.Idx → Val e) :
    v.read Val (v.writes Val f [⟨Rect.unit off s.size inb, w⟩]) = w := by
  funext y
  have hr := View.read_writes_cons_emb (v := v) (f := f) (Rect.unit off s.size inb) w [] y
  have hy : (Rect.unit off s.size inb).emb y = y := by
    funext a
    refine Fin.ext ?_
    show off a + 1 * (y a).val = (y a).val
    rw [h a, Nat.zero_add, Nat.one_mul]
  rwa [hy] at hr

/-- A load of the whole buffer after a store of the whole buffer reads what was stored. -/
theorem load_stored {sg : RefSig} {κ : Kind} {sp : Space} {s : Shape} {e : EltTy} {Val : EltTy → Type} [∀ e, Nonempty (Val e)] (v : View sg κ sp s e)
    {off : Fin s.rank → ℕ} (h : ∀ a, off a = 0) (inb : ∀ a, off a + s.size a ≤ s.size a) (w : s.Idx → Val e) :
    v.readCov [⟨Rect.unit off s.size inb, w⟩] (Rect.unit off s.size inb).toLoadRect = w :=
  (load_whole v _ h inb).trans (store_whole v _ h inb w)

variable {F : FTy → Type} [FloatOps F]

/-- The first conditional's test: the second coordinate is zero. -/
abbrev first (i : grid0.Coords) : Prop :=
  (Scalar.cmpi .ne (Scalar.extui (Scalar.cmpi .eq (BitVec.ofNat 32 (i 1).val) 0#32)) 0#32) = 1#1

variable (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole)
  (arg5 : Memref sig .tc .vmem S1x2048x768 .f32) (harg5 : arg5.IsWhole) (arg6 : Memref sig .tc .vmem S1024x768 .bf16) (harg6 : arg6.IsWhole) (arg7 : Memref sig .tc .vmem S1024x768 .bf16) (harg7 : arg7.IsWhole)
  (arg8 : Memref sig .tc .vmem S1024x768 .bf16) (harg8 : arg8.IsWhole) (arg9 : Memref sig .tc .vmem S1024x768 .bf16) (harg9 : arg9.IsWhole) (arg10 : Memref sig .tc .vmem S1024x2048 .bf16) (harg10 : arg10.IsWhole)
variable (out : Memref sig .tc .vmem S1024x768 .bf16) (hout : out.IsWhole)

/-- The first conditional's text: a block row of tokens is modulated into scratch. -/
noncomputable def modulate : Prog (TpuEff nD τ sig (Elt F) Λ₀ .tc) PUnit := do
  let x : Vec F S1024x2048 .f32 ← Prog.lift (.load arg2 (Rect.unit (s := S1024x2048) ![0, 0] S1024x2048.size inb_S1024x2048_S1024x2048_0_0).toLoadRect (View.loadsAt_vmem h_S1024x2048))
  let sc : Vec F S1x1x2048 .f32 ← Prog.lift (.load arg3 (Rect.unit (s := S1x1x2048) ![0, 0, 0] S1x1x2048.size inb_S1x1x2048_S1x1x2048_0_0_0).toLoadRect (View.loadsAt_vmem h_S1x1x2048))
  let sh : Vec F S1x1x2048 .f32 ← Prog.lift (.load arg4 (Rect.unit (s := S1x1x2048) ![0, 0, 0] S1x1x2048.size inb_S1x1x2048_S1x1x2048_0_0_0).toLoadRect (View.loadsAt_vmem h_S1x1x2048))
  let _ : Vec F S1024x2048 .bf16 ← Prog.lift (.load arg10 (Rect.unit (s := S1024x2048) ![0, 0] S1024x2048.size inb_S1024x2048_S1024x2048_0_0).toLoadRect (View.loadsAt_vmem h_S1024x2048))
  Prog.lift (.store arg10 (Rect.unit (s := S1024x2048) ![0, 0] S1024x2048.size inb_S1024x2048_S1024x2048_0_0) (k0_pay1 x sc sh) Finset.univ (View.stores_vmem h_S1024x2048 (harg10.storeExact_slice rfl _ packedbf16_S1024x2048_S1024x2048_0_0) (fun _ => rfl)) (.inl rfl))
  pure ⟨⟩

/-- Each other conditional's text: scratch times the weights' tile, stored in one output. -/
noncomputable def product : Prog (TpuEff nD τ sig (Elt F) Λ₀ .tc) PUnit := do
  let h : Vec F S1024x2048 .bf16 ← Prog.lift (.load arg10 (Rect.unit (s := S1024x2048) ![0, 0] S1024x2048.size inb_S1024x2048_S1024x2048_0_0).toLoadRect (View.loadsAt_vmem h_S1024x2048))
  let w : Vec F S1x2048x768 .f32 ← Prog.lift (.load arg5 (Rect.unit (s := S1x2048x768) ![0, 0, 0] S1x2048x768.size inb_S1x2048x768_S1x2048x768_0_0_0).toLoadRect (View.loadsAt_vmem h_S1x2048x768))
  let _ : Vec F S1024x768 .bf16 ← Prog.lift (.load out (Rect.unit (s := S1024x768) ![0, 0] S1024x768.size inb_S1024x768_S1024x768_0_0).toLoadRect (View.loadsAt_vmem h_S1024x768))
  Prog.lift (.store out (Rect.unit (s := S1024x768) ![0, 0] S1024x768.size inb_S1024x768_S1024x768_0_0) (k0_pay2 h w) Finset.univ (View.stores_vmem h_S1024x768 (hout.storeExact_slice rfl _ packedbf16_S1024x768_S1024x768_0_0) (fun _ => rfl)) (.inl rfl))
  pure ⟨⟩

/-- `a` where the test holds, and then `p`. -/
noncomputable def under (B : Prop) [Decidable B] (a : Prog (TpuEff nD τ sig (Elt F) Λ₀ .tc) PUnit) (p : PUnit → Prog (TpuEff nD τ sig (Elt F) Λ₀ .tc) PUnit) : Prog (TpuEff nD τ sig (Elt F) Λ₀ .tc) PUnit :=
  if B then a >>= p else p ⟨⟩

/-- The body is these, each under its test. -/
theorem body_eq (i : grid0.Coords) :
    cc0_in_projection (F := F) i arg2 harg2 arg3 harg3 arg4 harg4 arg5 harg5 arg6 harg6 arg7 harg7 arg8 harg8 arg9 harg9 arg10 harg10 =
      under (first i) (modulate arg2 arg3 arg4 arg10 harg10) fun _ =>
      under (k0_cond2 i = 1#1) (product arg5 arg10 arg6 harg6) fun _ =>
      under (k0_cond3 i = 1#1) (product arg5 arg10 arg7 harg7) fun _ =>
      under (k0_cond4 i = 1#1) (product arg5 arg10 arg8 harg8) fun _ =>
      under (k0_cond5 i = 1#1) (product arg5 arg10 arg9 harg9) fun _ =>
      pure ⟨⟩ := rfl

include harg2 harg3 harg4 in
set_option maxHeartbeats 1000000 in
/-- The modulation leaves the modulated block in scratch and its three sources as they were. -/
theorem modulate_run (c : Dev nD) (x0 : Vec F S1024x2048 .f32) (x1 x2 : Vec F S1x1x2048 .f32) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg10 fullShare (k0_pay1 x0 x1 x2)) -∗ K ⟨⟩))
      ⊢ wp frame (wpE (defs₀ (F := F)) Variants.none c none) E (modulate arg2 arg3 arg4 arg10 harg10) K := by
  unfold modulate owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  rw [store_whole _ _ (by decide), load_whole _ _ (by decide), load_whole _ _ (by decide), load_whole _ _ (by decide), harg2.read_unread, harg3.read_unread, harg4.read_unread]

include harg5 harg10 in
set_option maxHeartbeats 1000000 in
/-- The product leaves scratch times the weights' tile in its output, and scratch and tile as they were. -/
theorem product_run (c : Dev nD) (x3 : Vec F S1x2048x768 .f32) (h : Vec F S1024x2048 .bf16) (E : Set ℕ) (K : PUnit → sProp (MT nD τ sig Unit (Elt F) ℕ (UR sig nD τ) ℕ)) :
    iprop(owns (c : Thread nD τ) arg5 fullShare x3 ∗ (∃ d, owns (c : Thread nD τ) out fullShare d) ∗ owns (c : Thread nD τ) arg10 fullShare h
        ∗ (iprop(owns (c : Thread nD τ) arg5 fullShare x3 ∗ owns (c : Thread nD τ) out fullShare (k0_pay2 h x3) ∗ owns (c : Thread nD τ) arg10 fullShare h) -∗ K ⟨⟩))
      ⊢ wp frame (wpE (defs₀ (F := F)) Variants.none c none) E (product arg5 arg10 out hout) K := by
  unfold product owns
  iintro ⟨⟨%f3, %hf3, H3⟩, ⟨%d, %f, -, H⟩, ⟨%fs, %hfs, HS⟩, Hk⟩
  obtain rfl := harg5.eq_unread hf3; obtain rfl := harg10.eq_unread hfs
  sl_exec
  sl_step
  iapply Hk
  isplitl [H3]
  · iexists _; isplitr; · ipureintro; exact harg5.read_unread _
    iexact H3
  isplitl [H]
  · iexists _; isplitr
    swap; · iexact H
    ipureintro
    rw [store_whole _ _ (by decide), load_whole _ _ (by decide), load_whole _ _ (by decide), harg10.read_unread, harg5.read_unread]
  iexists _; isplitr; · ipureintro; exact harg10.read_unread _
  iexact HS

include harg5 harg10 in
/-- One conditional product: where its test holds the output goes from `X` through the product to `Y`, and where not `X` is `Y`. -/
theorem turn (c : Dev nD) (B : Prop) [Decidable B] (w : Vec F S1x2048x768 .f32) (h : Vec F S1024x2048 .bf16) (X Y : sProp (MT nD τ sig Unit (Elt F) ℕ (UR sig nD τ) ℕ))
    (hX : X ⊢ iprop(∃ d, owns (c : Thread nD τ) out fullShare d)) (hY : B → (owns (c : Thread nD τ) out fullShare (k0_pay2 h w) ⊢ Y)) (hN : ¬B → (X ⊢ Y))
    (E : Set ℕ) (p : PUnit → Prog (TpuEff nD τ sig (Elt F) Λ₀ .tc) PUnit) (K : PUnit → sProp (MT nD τ sig Unit (Elt F) ℕ (UR sig nD τ) ℕ)) :
    iprop(owns (c : Thread nD τ) arg5 fullShare w ∗ X ∗ owns (c : Thread nD τ) arg10 fullShare h
        ∗ (iprop(owns (c : Thread nD τ) arg5 fullShare w ∗ Y ∗ owns (c : Thread nD τ) arg10 fullShare h) -∗ wp frame (wpE (defs₀ (F := F)) Variants.none c none) E (p ⟨⟩) K))
      ⊢ wp frame (wpE (defs₀ (F := F)) Variants.none c none) E (under B (product arg5 arg10 out hout) p) K := by
  unfold under
  by_cases hB : B
  · rw [if_pos hB, wp_bind]
    iintro ⟨H3, HX, HS, Hk⟩
    iapply (product_run arg5 harg5 arg10 harg10 out hout c w h E _)
    isplitl [H3]; · iexact H3
    isplitl [HX]; · iapply hX; iexact HX
    isplitl [HS]; · iexact HS
    iintro ⟨H3, H, HS⟩
    iapply Hk
    isplitl [H3]; · iexact H3
    isplitl [H]; · iapply (hY hB); iexact H
    iexact HS
  · rw [if_neg hB]
    iintro ⟨H3, HX, HS, Hk⟩
    iapply Hk
    isplitl [H3]; · iexact H3
    isplitl [HX]; · iapply (hN hB); iexact HX
    iexact HS

end Cert.In

end
-- ==== Proof.InFrame.lean ====
/- The input projection's run over its 120 points: the proof data, the body at every point, and the launch. -/
module

public import proofs.«01_k».proof.Proof.InRun

@[expose] public section

set_option maxRecDepth 16384

noncomputable section

namespace Cert.In

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- A core's buffers when the call begins: as launched, for nothing is done before it. -/
abbrev V (c : Dev nD) (b : Ref sig .tc) : Buf (Elt F) ((c : Thread nD τ).loc b) := m ((c : Thread nD τ).loc b)

/-- The program is the one call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [] trivial trivial main_chain

/-- What a window's block reads of its array at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The point of a number. -/
def pt (n : ℕ) : Fin cfg0.N := ⟨n % 120, lt_of_lt_of_eq (Nat.mod_lt _ (by decide)) N_0.symm⟩

/-- The point of a point's number is it. -/
theorem pt_val (t : Fin cfg0.N) : pt t.val = t := by
  refine Fin.ext ?_
  show t.val % 120 = t.val
  have := t.isLt; have h : cfg0.N = 120 := N_0
  omega

/-- The modulated rows of block row `i`. -/
def hrow (c : Dev nD) (i : ℕ) : Vec F S1024x2048 .bf16 :=
  k0_pay1 (iblk m c 0 (pt (15 * i))) (iblk m c 1 (pt (15 * i))) (iblk m c 2 (pt (15 * i)))

/-- What the output with tiles `lo` to `hi` holds after a point: the product of the last tile of its own up to there. -/
def outAt (c : Dev nD) (lo hi n : ℕ) : Vec F S1024x768 .bf16 :=
  k0_pay2 (hrow m c (n / 15)) (iblk m c 3 (pt (15 * (n / 15) + max lo (min (n % 15) (hi - 1)))))

/-- At one of its own tiles an output holds that tile's product. -/
theorem outAt_live (c : Dev nD) (lo hi : ℕ) (t : Fin cfg0.N) (h1 : lo ≤ t.val % 15) (h2 : t.val % 15 < hi) :
    outAt m c lo hi t.val = k0_pay2 (hrow m c (t.val / 15)) (iblk m c 3 t) := by
  unfold outAt
  rw [show 15 * (t.val / 15) + max lo (min (t.val % 15) (hi - 1)) = t.val by omega, pt_val]

/-- Past its own tiles an output holds what it held a point before. -/
theorem outAt_carry (c : Dev nD) (lo hi n : ℕ) (h1 : lo < hi) (h2 : hi ≤ n % 15) : outAt m c lo hi n = outAt m c lo hi (n - 1) := by
  unfold outAt
  rw [show (n - 1) / 15 = n / 15 by omega, show max lo (min ((n - 1) % 15) (hi - 1)) = max lo (min (n % 15) (hi - 1)) by omega]

/-- A row's modulated block is of its first point's blocks. -/
theorem hrow_first (c : Dev nD) (t : Fin cfg0.N) (h : t.val % 15 = 0) : hrow m c (t.val / 15) = k0_pay1 (iblk m c 0 t) (iblk m c 1 t) (iblk m c 2 t) := by
  unfold hrow
  rw [show 15 * (t.val / 15) = t.val by omega, pt_val]

/-- The scratch buffer. -/
abbrev scr : Memref sig .tc .vmem S1024x2048 .bf16 := Memref.whole cc0_scratch0

/-- The scratch at anything and the generator at some state. -/
theorem PhiA_eq (c : Dev nD) :
    (Pipeline.ΦA spec0 c : sProp (MT nD τ sig Unit (Elt F) ℕ (UR sig nD τ) ℕ)) = iprop((∃ d, owns (c : Thread nD τ) scr fullShare d) ∗ (∃ r, prngReg c r)) := by
  unfold Pipeline.ΦA; rw [scopedRest0_eq]; simp only [scr, owns_whole]; try rfl

/-- Between points: at a row's start the scratch holds anything, inside a row the row's modulated block. -/
def Phi (c : Dev nD) (n : ℕ) : sProp (MT nD τ sig Unit (Elt F) ℕ (UR sig nD τ) ℕ) :=
  if n % 15 = 0 then Pipeline.ΦA spec0 c else iprop(owns (c : Thread nD τ) scr fullShare (hrow m c (n / 15)) ∗ (∃ r, prngReg c r))

/-- After a point the scratch holds its row's block, which is what the next point is told. -/
theorem Phi_next (c : Dev nD) (n : ℕ) : iprop(owns (c : Thread nD τ) scr fullShare (hrow m c (n / 15)) ∗ (∃ r, prngReg c r)) ⊢ Phi m c (n + 1) := by
  unfold Phi
  by_cases h : (n + 1) % 15 = 0
  · rw [if_pos h, PhiA_eq]
    iintro ⟨H, Hg⟩
    isplitl [H]; · iexists _; iexact H
    iexact Hg
  · rw [if_neg h, show (n + 1) / 15 = n / 15 by omega]

/-- The call's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c 0 2 t.val
    | ⟨5, _⟩ => outAt m c 2 5 t.val
    | ⟨6, _⟩ => outAt m c 5 7 t.val
    | ⟨7, _⟩ => outAt m c 7 15 t.val
  Φ t := Phi m c t.val
  q w := Pipeline.shareOf spec0 w
  owed _ := 0

/-- The data's arrays are the buffers as launched. -/
theorem A_eq (c : Dev nD) (w : Fin cfg0.W) : (dats m 0 c).A w = V m c (Pipeline.arrRef spec0 w) := by dsimp only [dats]

/-- An input's buffer holds its block at every point. -/
theorem before_in (c : Dev nD) (t : Fin cfg0.N) : (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t) :=
  ⟨fun d => (dats m 0 c).before_in_eq_fetched 0 rfl (fun _ => rfl) (fun _ _ _ => rfl) (fun _ => rfl) t d,
    fun d => (dats m 0 c).before_in_eq_fetched 1 rfl (fun _ => rfl) (fun _ _ _ => rfl) (fun _ => rfl) t d,
    fun d => (dats m 0 c).before_in_eq_fetched 2 rfl (fun _ => rfl) (fun _ _ _ => rfl) (fun _ => rfl) t d,
    fun d => (dats m 0 c).before_in_eq_fetched 3 rfl (fun _ => rfl) (fun _ _ _ => rfl) (fun _ => rfl) t d⟩

/-- Which conditionals a point takes, by its place in the row. -/
theorem conds : ∀ t : Fin cfg0.N, (first (grid0.coords t) ↔ t.val % 15 = 0) ∧ (k0_cond2 (grid0.coords t) = 1#1 ↔ 0 ≤ t.val % 15 ∧ t.val % 15 < 2)
    ∧ (k0_cond3 (grid0.coords t) = 1#1 ↔ 2 ≤ t.val % 15 ∧ t.val % 15 < 5) ∧ (k0_cond4 (grid0.coords t) = 1#1 ↔ 5 ≤ t.val % 15 ∧ t.val % 15 < 7)
    ∧ (k0_cond5 (grid0.coords t) = 1#1 ↔ 7 ≤ t.val % 15 ∧ t.val % 15 < 15) :=
  (by decide +kernel : ∀ t : Fin grid0.N, _)

/-- Where an output's own tiles begin. -/
def lo : Fin 8 → ℕ := ![0, 0, 0, 0, 0, 2, 5, 7]

/-- Where they end. -/
def hi : Fin 8 → ℕ := ![1, 1, 1, 1, 2, 5, 7, 15]

/-- An output's buffer is free up to its last own tile, and carried from there to the row's end. -/
theorem tab : ∀ w : Fin cfg0.W, 4 ≤ w.val → ∀ t : Fin cfg0.N,
    decide ((t.val + 1) % 15 < hi w) = ((cfg0.win w).flush t || (cfg0.idle w (cfg0.grid.coords t) && decide (t.val % 15 < hi w))) :=
  (by simp only [Pipeline.Window.flush_eq_flushF]; decide +kernel : ∀ w : Fin 8, 4 ≤ w.val → ∀ t : Fin grid0.N,
    decide ((t.val + 1) % 15 < hi w) = ((win0 w).flush t || (idle0 w (grid0.coords t) && decide (t.val % 15 < hi w))))

/-- An output flushed at a point that does not store in it is past its own tiles. -/
theorem past : ∀ w : Fin cfg0.W, 4 ≤ w.val → ∀ t : Fin cfg0.N, cfg0.idle w (cfg0.grid.coords t) = true → (cfg0.win w).flush t = true → hi w ≤ t.val % 15 :=
  (by simp only [Pipeline.Window.flush_eq_flushF]; decide +kernel : ∀ w : Fin 8, 4 ≤ w.val → ∀ t : Fin grid0.N,
    idle0 w (grid0.coords t) = true → (win0 w).flush t = true → hi w ≤ t.val % 15)

/-- An output's buffer, once carried, holds at the flush what its last own tile left. -/
theorem carried (c : Dev nD) (w : Fin cfg0.W) (h4 : 4 ≤ w.val) (ho : (cfg0.win w).isOut = true) (hc : ∀ i a, (cfg0.win w).clip i a = none)
    (hs : ∀ (t : Fin cfg0.N) (h : hi w ≤ t.val % 15), (dats m 0 c).after w t = (dats m 0 c).after w ⟨t.val - 1, by have := t.isLt; omega⟩)
    (t : Fin cfg0.N) (d) (h1 : cfg0.idle w (cfg0.grid.coords t) = true) (h2 : (cfg0.win w).flush t = true) :
    (dats m 0 c).before w t d = (dats m 0 c).after w t := by
  have h0 : ∀ w : Fin 8, decide (0 % 15 < hi w) = true := by decide
  have hfr : ∀ n, n ≤ cfg0.N → cfg0.fresh w n = decide (n % 15 < hi w) := Pipeline.Cfg.fresh_tab cfg0 w (fun n => decide (n % 15 < hi w)) (h0 w) (tab w h4)
  have hl := past w h4 t h1 h2
  rw [(dats m 0 c).before_out_traj w ho hc (fun t h0 hi hn => by
      rw [hfr _ (Nat.le_of_lt t.isLt), decide_eq_false_iff_not] at hn
      exact hs t (Nat.le_of_not_lt hn)) t.val t rfl d,
    hfr _ (Nat.le_of_lt t.isLt), if_neg (by simp only [decide_eq_true_eq]; omega)]
  exact (hs t hl).symm

/-- A window the point does not store in is returned as found. -/
theorem pass (c : Dev nD) (w : Fin cfg0.W) (t : Fin cfg0.N) (hi : cfg0.idle w (cfg0.grid.coords t) = true)
    (hb : ∀ d, cfg0.idle w (cfg0.grid.coords t) = true → (cfg0.win w).flush t = true → (dats m 0 c).before w t d = (dats m 0 c).after w t) :
    (iprop(∃ d, owns (c : Thread nD τ) ((cfg0.win w).stage (cfg0.slots t w)) fullShare ((dats m 0 c).before w t d)) : sProp (MT nD τ sig Unit (Elt F) ℕ (UR sig nD τ) ℕ)) ⊢ (dats m 0 c).leavesExact w t := by
  cases hf : (cfg0.win w).flush t
  · rw [(dats m 0 c).leavesExact_idle w t hi hf]
  · unfold Dat.leavesExact
    rw [hi, hf]
    iintro ⟨%d, H⟩
    rw [hb d hi hf]
    iexact H

/-- A window the point stores in, or an input, is returned at what it holds then. -/
theorem live (c : Dev nD) (w : Fin cfg0.W) (t : Fin cfg0.N) (hi : cfg0.idle w (cfg0.grid.coords t) = false) (X : (cfg0.win w).block.Idx → Elt F (cfg0.win w).elt)
    (hX : X = (dats m 0 c).after w t) :
    (owns (c : Thread nD τ) ((cfg0.win w).stage (cfg0.slots t w)) fullShare X : sProp (MT nD τ sig Unit (Elt F) ℕ (UR sig nD τ) ℕ)) ⊢ (dats m 0 c).leavesExact w t := by
  subst hX
  unfold Dat.leavesExact
  rw [hi]

/-- What the body is called with at a point. -/
def bodyPre (c : Dev nD) (t : Fin cfg0.N) : sProp (MT nD τ sig Unit (Elt F) ℕ (UR sig nD τ) ℕ) :=
  iprop((dats m 0 c).Φ t.castSucc ∗ (dats m 0 c).owesAt () t.castSucc ∗ (∃ d, owns (c : Thread nD τ) ((cfg0.win 0).stage (cfg0.slots t 0)) fullShare ((dats m 0 c).before 0 t d)) ∗ (∃ d, owns (c : Thread nD τ) ((cfg0.win 1).stage (cfg0.slots t 1)) fullShare ((dats m 0 c).before 1 t d)) ∗ (∃ d, owns (c : Thread nD τ) ((cfg0.win 2).stage (cfg0.slots t 2)) fullShare ((dats m 0 c).before 2 t d)) ∗ (∃ d, owns (c : Thread nD τ) ((cfg0.win 3).stage (cfg0.slots t 3)) fullShare ((dats m 0 c).before 3 t d)) ∗ (∃ d, owns (c : Thread nD τ) ((cfg0.win 4).stage (cfg0.slots t 4)) fullShare ((dats m 0 c).before 4 t d)) ∗ (∃ d, owns (c : Thread nD τ) ((cfg0.win 5).stage (cfg0.slots t 5)) fullShare ((dats m 0 c).before 5 t d)) ∗ (∃ d, owns (c : Thread nD τ) ((cfg0.win 6).stage (cfg0.slots t 6)) fullShare ((dats m 0 c).before 6 t d)) ∗ (∃ d, owns (c : Thread nD τ) ((cfg0.win 7).stage (cfg0.slots t 7)) fullShare ((dats m 0 c).before 7 t d)))

/-- What it returns. -/
def bodyPost (c : Dev nD) (t : Fin cfg0.N) : sProp (MT nD τ sig Unit (Elt F) ℕ (UR sig nD τ) ℕ) :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t)

/-- At a row's start the body fills the scratch, and inside a row it finds it filled. -/
theorem start (c : Dev nD) (t : Fin cfg0.N) (a0 : Memref sig .tc .vmem S1024x2048 .f32) (h0 : a0.IsWhole) (a1 : Memref sig .tc .vmem S1x1x2048 .f32) (h1 : a1.IsWhole)
    (a2 : Memref sig .tc .vmem S1x1x2048 .f32) (h2 : a2.IsWhole) (hs : scr.IsWhole)
    (E : Set ℕ) (p : PUnit → Prog (TpuEff nD τ sig (Elt F) Λ₀ .tc) PUnit) (K : PUnit → sProp (MT nD τ sig Unit (Elt F) ℕ (UR sig nD τ) ℕ)) :
    iprop(Phi m c t.val ∗ owns (c : Thread nD τ) a0 fullShare (iblk m c 0 t) ∗ owns (c : Thread nD τ) a1 fullShare (iblk m c 1 t) ∗ owns (c : Thread nD τ) a2 fullShare (iblk m c 2 t)
        ∗ (iprop((owns (c : Thread nD τ) scr fullShare (hrow m c (t.val / 15)) ∗ (∃ r, prngReg c r)) ∗ owns (c : Thread nD τ) a0 fullShare (iblk m c 0 t) ∗ owns (c : Thread nD τ) a1 fullShare (iblk m c 1 t) ∗ owns (c : Thread nD τ) a2 fullShare (iblk m c 2 t)) -∗ wp frame (wpE (defs₀ (F := F)) Variants.none c none) E (p ⟨⟩) K))
      ⊢ wp frame (wpE (defs₀ (F := F)) Variants.none c none) E (under (first (grid0.coords t)) (modulate a0 a1 a2 scr hs) p) K := by
  unfold under
  by_cases hb : t.val % 15 = 0
  · rw [if_pos ((conds t).1.mpr hb), wp_bind, show Phi m c t.val = Pipeline.ΦA spec0 c from if_pos hb, PhiA_eq, hrow_first m c t hb]
    iintro ⟨⟨HS, Hg⟩, H0, H1, H2, Hk⟩
    iapply (modulate_run a0 h0 a1 h1 a2 h2 scr hs c _ _ _ E _)
    isplitl [H0]; · iexact H0
    isplitl [H1]; · iexact H1
    isplitl [H2]; · iexact H2
    isplitl [HS]; · iexact HS
    iintro ⟨H0, H1, H2, HS⟩
    iapply Hk
    isplitl [HS Hg]
    · isplitl [HS]; · iexact HS
      iexact Hg
    isplitl [H0]; · iexact H0
    isplitl [H1]; · iexact H1
    iexact H2
  · rw [if_neg (fun h => hb ((conds t).1.mp h)), show Phi m c t.val = _ from if_neg hb]
    iintro ⟨HP, H0, H1, H2, Hk⟩
    iapply Hk
    isplitl [HP]; · iexact HP
    isplitl [H0]; · iexact H0
    isplitl [H1]; · iexact H1
    iexact H2

/-- Forgetting what a buffer held. -/
theorem some_of (c : Dev nD) (w : Fin cfg0.W) (t : Fin cfg0.N) :
    (iprop(∃ d, owns (c : Thread nD τ) ((cfg0.win w).stage (cfg0.slots t w)) fullShare ((dats m 0 c).before w t d)) : sProp (MT nD τ sig Unit (Elt F) ℕ (UR sig nD τ) ℕ))
      ⊢ iprop(∃ d, owns (c : Thread nD τ) ((cfg0.win w).stage (cfg0.slots t w)) fullShare d) := by
  iintro ⟨%d, H⟩
  iexists _; iexact H

/-- A test that holds says that its output is not idle. -/
theorem idle_at {b : BitVec 1} (h : b = 1#1) : (!(b == 1#1)) = false := by
  rw [h]; rfl

/-- A test that fails says that it is. -/
theorem idle_not {b : BitVec 1} (h : ¬b = 1#1) : (!(b == 1#1)) = true := by
  rw [Bool.not_eq_true', beq_eq_false_iff_ne]; exact h

set_option maxHeartbeats 1600000 in
/-- The body at any point: the scratch filled, then each output stored in where its test holds and passed where not. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  obtain ⟨b0, b1, b2, b3⟩ := before_in m c t
  obtain ⟨-, k2, k3, k4, k5⟩ := conds t
  simp only [b0, b1, b2, b3]
  rw [show (dats m 0 c).owesAt () t.succ = (dats m 0 c).owesAt () t.castSucc from rfl,
    show (dats m 0 c).Φ t.succ = Phi m c (t.val + 1) from rfl, show (dats m 0 c).Φ t.castSucc = Phi m c t.val from rfl, body_eq]
  iintro ⟨HP, Ho, ⟨%d0, H0⟩, ⟨%d1, H1⟩, ⟨%d2, H2⟩, ⟨%d3, H3⟩, H4, H5, H6, H7⟩
  iapply (start m c t _ (hstage0_0 _) _ (hstage0_1 _) _ (hstage0_2 _) _ Set.univ _ _)
  isplitl [HP]; · iexact HP
  isplitl [H0]; · iexact H0
  isplitl [H1]; · iexact H1
  isplitl [H2]; · iexact H2
  iintro ⟨⟨HS, Hg⟩, H0, H1, H2⟩
  iapply (turn _ (hstage0_3 _) scr (Memref.isWhole_whole _) _ _ c (k0_cond2 (grid0.coords t) = 1#1) (iblk m c 3 t) (hrow m c (t.val / 15)) _ ((dats m 0 c).leavesExact 4 t) (some_of m c 4 t)
    (fun h => live m c 4 t (idle_at h) _ (outAt_live m c 0 2 t (k2.mp h).1 (k2.mp h).2).symm) (fun h => pass m c 4 t (idle_not h) fun d => carried m c 4 (by decide) rfl (fun _ _ => rfl) (fun t h => outAt_carry m c _ _ _ (by decide) h) t d) Set.univ _ _)
  isplitl [H3]; · iexact H3
  isplitl [H4]; · iexact H4
  isplitl [HS]; · iexact HS
  iintro ⟨H3, H4, HS⟩
  iapply (turn _ (hstage0_3 _) scr (Memref.isWhole_whole _) _ _ c (k0_cond3 (grid0.coords t) = 1#1) (iblk m c 3 t) (hrow m c (t.val / 15)) _ ((dats m 0 c).leavesExact 5 t) (some_of m c 5 t)
    (fun h => live m c 5 t (idle_at h) _ (outAt_live m c 2 5 t (k3.mp h).1 (k3.mp h).2).symm) (fun h => pass m c 5 t (idle_not h) fun d => carried m c 5 (by decide) rfl (fun _ _ => rfl) (fun t h => outAt_carry m c _ _ _ (by decide) h) t d) Set.univ _ _)
  isplitl [H3]; · iexact H3
  isplitl [H5]; · iexact H5
  isplitl [HS]; · iexact HS
  iintro ⟨H3, H5, HS⟩
  iapply (turn _ (hstage0_3 _) scr (Memref.isWhole_whole _) _ _ c (k0_cond4 (grid0.coords t) = 1#1) (iblk m c 3 t) (hrow m c (t.val / 15)) _ ((dats m 0 c).leavesExact 6 t) (some_of m c 6 t)
    (fun h => live m c 6 t (idle_at h) _ (outAt_live m c 5 7 t (k4.mp h).1 (k4.mp h).2).symm) (fun h => pass m c 6 t (idle_not h) fun d => carried m c 6 (by decide) rfl (fun _ _ => rfl) (fun t h => outAt_carry m c _ _ _ (by decide) h) t d) Set.univ _ _)
  isplitl [H3]; · iexact H3
  isplitl [H6]; · iexact H6
  isplitl [HS]; · iexact HS
  iintro ⟨H3, H6, HS⟩
  iapply (turn _ (hstage0_3 _) scr (Memref.isWhole_whole _) _ _ c (k0_cond5 (grid0.coords t) = 1#1) (iblk m c 3 t) (hrow m c (t.val / 15)) _ ((dats m 0 c).leavesExact 7 t) (some_of m c 7 t)
    (fun h => live m c 7 t (idle_at h) _ (outAt_live m c 7 15 t (k5.mp h).1 (k5.mp h).2).symm) (fun h => pass m c 7 t (idle_not h) fun d => carried m c 7 (by decide) rfl (fun _ _ => rfl) (fun t h => outAt_carry m c _ _ _ (by decide) h) t d) Set.univ _ _)
  isplitl [H3]; · iexact H3
  isplitl [H7]; · iexact H7
  isplitl [HS]; · iexact HS
  iintro ⟨H3, H7, HS⟩
  sl_step
  isplitl [HS Hg]
  · iapply (Phi_next m c t.val)
    isplitl [HS]; · iexact HS
    iexact Hg
  isplitl [Ho]; · iexact Ho
  isplitl [H0]; · iapply (live m c 0 t rfl (iblk m c 0 t) rfl); iexact H0
  isplitl [H1]; · iapply (live m c 1 t rfl (iblk m c 1 t) rfl); iexact H1
  isplitl [H2]; · iapply (live m c 2 t rfl (iblk m c 2 t) rfl); iexact H2
  isplitl [H3]; · iapply (live m c 3 t rfl (iblk m c 3 t) rfl); iexact H3
  isplitl [H4]; · iexact H4
  isplitl [H5]; · iexact H5
  isplitl [H6]; · iexact H6
  iexact H7

/-- The call's row is its body at the point. -/
theorem defs₀_row (t : Fin cfg0.N) : defs₀ (F := F) .tc cfg0.body (cfg0.bodyArgs t (cfg0.slots t)) = bodyAt0 t := by
  unfold defs₀; rw [Defs.onTc_tc]

/-- The obligation of the run: the body at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What is between points begins at anything. -/
theorem hin (c : Dev nD) : Pipeline.ΦA spec0 c ⊢ (dats m 0 c).Φ 0 := by
  rw [show (dats m 0 c).Φ 0 = Phi m c 0 from rfl, show Phi m c 0 = Pipeline.ΦA spec0 c from if_pos rfl]

/-- And ends at anything. -/
theorem hout (c : Dev nD) : (dats m 0 c).Φ (Fin.last cfg0.N) ⊢ Pipeline.ΦA spec0 c := by
  rw [show (dats m 0 c).Φ (Fin.last cfg0.N) = Phi m c cfg0.N from rfl, show Phi m c cfg0.N = Pipeline.ΦA spec0 c from if_pos (by rw [show cfg0.N = 120 from N_0])]

set_option backward.isDefEq.respectTransparency.types false in
/-- The launch: every array ends at what the proof data says, every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run: the four outputs as the proof data has them, the arguments unchanged, every counter at zero. -/
theorem run : θ_run defs (onTc (τ := τ) (main (F := F))) ⟨m, fun _ => 0, ρ⟩ (fun r => (∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_v0_2) = (dats m 0 c).arrAt 6 cfg0.N
      ∧ r.2.mem ((c.tc : Thread nD τ).loc main_v0_3) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 4, (h.1 c).1 5, (h.1 c).1 6, (h.1 c).1 7,
      ((h.1 c).1 0).trans (((dats m 0 c).arrAt_in 0 rfl _).trans (A_eq m c 0)),
      ((h.1 c).1 1).trans (((dats m 0 c).arrAt_in 1 rfl _).trans (A_eq m c 1)),
      ((h.1 c).1 3).trans (((dats m 0 c).arrAt_in 3 rfl _).trans (A_eq m c 3))⟩, h.2⟩) (run_quiet m ρ)

end Cert.In

end
-- ==== Proof.InVal.lean ====
/- What the input projection's run leaves in its four outputs: the projection, column for column. -/
module
public import proofs.«01_k».proof.Proof.InMath
public import proofs.«01_k».proof.Proof.InFrame
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.In
open Cert.Kernel2Ideal Cert.Kernel2Ideal.Gen
variable (m : (ℓ : Loc nD τ sig) → Buf (Elt Ideal) ℓ)

/-- The modulated block at a row and a column. -/
theorem mod_at (x : Vec Ideal S1024x2048 .f32) (sc sh : Vec Ideal S1x1x2048 .f32) (r : Fin 1024) (k : Fin 2048) :
    k0_pay1 x sc sh (ix2 r k) = x (ix2 r k) * (1 + sc (ix3 0 0 k)) + sh (ix3 0 0 k) := by
  pointwise [k0_pay1]

/-- The stored tile at a row and a column. -/
theorem tile_at (h : Vec Ideal S1024x2048 .bf16) (w : Vec Ideal S1x2048x768 .f32) (r : Fin 1024) (d : Fin 768) :
    k0_pay2 h w (ix2 r d) = ∑ k : Fin 2048, h (ix2 r k) * w (ix3 0 k d) := by
  pointwise [k0_pay2]

/-- The blocks' places at a point. -/
theorem idx : ∀ t : Fin cfg0.N, win0_0.index t = ![t.val / 15, 0] ∧ win0_1.index t = ![t.val / 60, 0, 1] ∧ win0_2.index t = ![t.val / 60, 0, 0]
    ∧ win0_3.index t = ![0, 0, t.val % 15] ∧ win0_4.index t = ![t.val / 15, max 0 (min (t.val % 15) 1)] ∧ win0_5.index t = ![t.val / 15, max 2 (min (t.val % 15) 4) - 2]
    ∧ win0_6.index t = ![t.val / 15, max 5 (min (t.val % 15) 6) - 5] ∧ win0_7.index t = ![t.val / 15, max 7 (min (t.val % 15) 14) - 7] :=
  (by decide +kernel : ∀ t : Fin grid0.N, _)

/-- The token a point's block row is. -/
def row (t : Fin cfg0.N) (i : Fin 1024) : Fin 8192 := ⟨t.val / 15 * 1024 + i.val, by have h : t.val < 120 := lt_of_lt_of_eq t.isLt N_0; have := i.isLt; omega⟩

/-- A token's sequence. -/
def seqOf (r : Fin 8192) : Fin 2 := ⟨r.val / 4096, by have := r.isLt; omega⟩

/-- The weights' column a point's block column is. -/
def col (t : Fin cfg0.N) (d : Fin 768) : Fin 11520 := ⟨t.val % 15 * 768 + d.val, by have := d.isLt; omega⟩

/-- The tokens at a point. -/
theorem b0 (c : Dev nD) (t : Fin cfg0.N) (i : Fin 1024) (k : Fin 2048) :
    (iblk m c 0 t : FVec Ideal S1024x2048 .f32) (ix2 i k) = (m ((c : Thread nD τ).loc main_arg0) : FVec Ideal S8192x2048 .f32) (ix2 (row t i) k) := by
  unfold row
  blk_point [iblk, V, idx t]

/-- The scale at a point. -/
theorem b1 (c : Dev nD) (t : Fin cfg0.N) (k : Fin 2048) :
    (iblk m c 1 t : FVec Ideal S1x1x2048 .f32) (ix3 0 0 k) = (m ((c : Thread nD τ).loc main_arg1) : FVec Ideal S2x1x12288 .f32) (ix3 ⟨t.val / 60, by have h : t.val < 120 := lt_of_lt_of_eq t.isLt N_0; omega⟩ 0 (sixth 1 k)) := by
  unfold sixth
  blk_point [iblk, V, idx t]

/-- The shift. -/
theorem b2 (c : Dev nD) (t : Fin cfg0.N) (k : Fin 2048) :
    (iblk m c 2 t : FVec Ideal S1x1x2048 .f32) (ix3 0 0 k) = (m ((c : Thread nD τ).loc main_arg1) : FVec Ideal S2x1x12288 .f32) (ix3 ⟨t.val / 60, by have h : t.val < 120 := lt_of_lt_of_eq t.isLt N_0; omega⟩ 0 (sixth 0 k)) := by
  unfold sixth
  blk_point [iblk, V, idx t]

/-- The weights. -/
theorem b3 (c : Dev nD) (t : Fin cfg0.N) (k : Fin 2048) (d : Fin 768) :
    (iblk m c 3 t : FVec Ideal S1x2048x768 .f32) (ix3 0 k d) = (m ((c : Thread nD τ).loc main_arg2) : FVec Ideal S2x2048x11520 .f32) (ix3 0 k (col t d)) := by
  unfold col
  blk_point [iblk, V, idx t]

/-- The projection over the arguments, at a token and a column of all the weights. -/
def G (c : Dev nD) (r : Fin 8192) (e : Fin 11520) : EReal :=
  proj (fun k => (m ((c : Thread nD τ).loc main_arg0) : FVec Ideal S8192x2048 .f32) (ix2 r k))
    (fun k => (m ((c : Thread nD τ).loc main_arg1) : FVec Ideal S2x1x12288 .f32) (ix3 (seqOf r) 0 (sixth 1 k)))
    (fun k => (m ((c : Thread nD τ).loc main_arg1) : FVec Ideal S2x1x12288 .f32) (ix3 (seqOf r) 0 (sixth 0 k)))
    (fun k => (m ((c : Thread nD τ).loc main_arg2) : FVec Ideal S2x2048x11520 .f32) (ix3 0 k e))

/-- What an output holds after a point, at a row and a column. -/
theorem wrote (c : Dev nD) (lo hi : ℕ) (h1 : lo < hi) (h2 : hi ≤ 15) (t : Fin cfg0.N) (i : Fin 1024) (d : Fin 768) (e : Fin 11520)
    (he : e.val = max lo (min (t.val % 15) (hi - 1)) * 768 + d.val) : (outAt m c lo hi t.val : FVec Ideal S1024x768 .bf16) (ix2 i d) = G m c (row t i) e := by
  have hN : t.val < 120 := lt_of_lt_of_eq t.isLt N_0
  unfold outAt
  rw [tile_at]
  unfold G proj
  refine Finset.sum_congr rfl fun k _ => ?_
  rw [b3]
  refine congrArg₂ (fun a b : EReal => a * b) ?_ ?_
  · unfold hrow
    rw [mod_at, b0, b1, b2]
    have e1 : row (pt (15 * (t.val / 15))) i = row t i := Fin.ext (by
      show 15 * (t.val / 15) % 120 / 15 * 1024 + i.val = t.val / 15 * 1024 + i.val
      omega)
    have e2 : (⟨(pt (15 * (t.val / 15))).val / 60, by have h : (pt (15 * (t.val / 15))).val < 120 := lt_of_lt_of_eq (pt (15 * (t.val / 15))).isLt N_0; omega⟩ : Fin 2) = seqOf (row t i) := Fin.ext (by
      show 15 * (t.val / 15) % 120 / 60 = (t.val / 15 * 1024 + i.val) / 4096
      have := i.isLt
      omega)
    rw [e1, e2]
  · refine congrArg (fun e => (m ((c : Thread nD τ).loc main_arg2) : FVec Ideal S2x2048x11520 .f32) (ix3 0 k e)) (Fin.ext ?_)
    rw [he]
    show (15 * (t.val / 15) + max lo (min (t.val % 15) (hi - 1))) % 120 % 15 * 768 + d.val = _
    congr 2
    omega

/-- The same at an element of an output's block, with its row and its column of all the weights named. -/
theorem wrote_at (c : Dev nD) (lo hi : ℕ) (h1 : lo < hi) (h2 : hi ≤ 15) (t : Fin cfg0.N) (y : S1024x768.Idx) (r : Fin 8192) (e : Fin 11520)
    (hr : r.val = t.val / 15 * 1024 + (y 0).val) (he : e.val = max lo (min (t.val % 15) (hi - 1)) * 768 + (y 1).val) : (outAt m c lo hi t.val : FVec Ideal S1024x768 .bf16) y = G m c r e := by
  refine Eq.trans (congrArg (outAt m c lo hi t.val) (?_ : y = ix2 ⟨(y 0).val, (y 0).isLt⟩ ⟨(y 1).val, (y 1).isLt⟩)) ?_
  · funext a
    match a with
    | 0 => rfl
    | 1 => rfl
  · rw [show r = row t ⟨(y 0).val, (y 0).isLt⟩ from Fin.ext hr]
    exact wrote m c lo hi h1 h2 t _ _ e he

/-- The first output: the projection's columns from 0. -/
theorem final4 (c : Dev nD) : ((dats m 0 c).arrAt 4 cfg0.N : FVec Ideal S8192x1536 .bf16) = fun y => G m c (y 0) ⟨0 + (y 1).val, by have : (y 1).val < 1536 := (y 1).isLt; omega⟩ := by
  refine (dats m 0 c).arrAt_eq_of_covers 4 _ (by decide +kernel) fun t hf y => ?_
  blk_simp
  have e := (idx t).2.2.2.2.1
  refine wrote_at m c 0 2 (by decide) (by decide) t y _ _ ((win0_4.rect_emb_val t y 0).trans ?_) ?_
  · rw [e]; rfl
  · show win0_4.index t 1 * 768 + (y 1).val = max 0 (min (t.val % 15) 1) * 768 + (y 1).val
    rw [congrFun e 1]
    rfl

/-- The second output: the projection's columns from 1536. -/
theorem final5 (c : Dev nD) : ((dats m 0 c).arrAt 5 cfg0.N : FVec Ideal S8192x2304 .bf16) = fun y => G m c (y 0) ⟨1536 + (y 1).val, by have : (y 1).val < 2304 := (y 1).isLt; omega⟩ := by
  refine (dats m 0 c).arrAt_eq_of_covers 5 _ (by decide +kernel) fun t hf y => ?_
  blk_simp
  have e := (idx t).2.2.2.2.2.1
  refine wrote_at m c 2 5 (by decide) (by decide) t y _ _ ((win0_5.rect_emb_val t y 0).trans ?_) ?_
  · rw [e]; rfl
  · show 1536 + (win0_5.index t 1 * 768 + (y 1).val) = max 2 (min (t.val % 15) 4) * 768 + (y 1).val
    rw [congrFun e 1]
    show 1536 + ((max 2 (min (t.val % 15) 4) - 2) * 768 + (y 1).val) = _
    omega

/-- The third output: the projection's columns from 3840. -/
theorem final6 (c : Dev nD) : ((dats m 0 c).arrAt 6 cfg0.N : FVec Ideal S8192x1536 .bf16) = fun y => G m c (y 0) ⟨3840 + (y 1).val, by have : (y 1).val < 1536 := (y 1).isLt; omega⟩ := by
  refine (dats m 0 c).arrAt_eq_of_covers 6 _ (by decide +kernel) fun t hf y => ?_
  blk_simp
  have e := (idx t).2.2.2.2.2.2.1
  refine wrote_at m c 5 7 (by decide) (by decide) t y _ _ ((win0_6.rect_emb_val t y 0).trans ?_) ?_
  · rw [e]; rfl
  · show 3840 + (win0_6.index t 1 * 768 + (y 1).val) = max 5 (min (t.val % 15) 6) * 768 + (y 1).val
    rw [congrFun e 1]
    show 3840 + ((max 5 (min (t.val % 15) 6) - 5) * 768 + (y 1).val) = _
    omega

/-- The fourth output: the projection's columns from 5376. -/
theorem final7 (c : Dev nD) : ((dats m 0 c).arrAt 7 cfg0.N : FVec Ideal S8192x6144 .bf16) = fun y => G m c (y 0) ⟨5376 + (y 1).val, by have : (y 1).val < 6144 := (y 1).isLt; omega⟩ := by
  refine (dats m 0 c).arrAt_eq_of_covers 7 _ (by decide +kernel) fun t hf y => ?_
  blk_simp
  have e := (idx t).2.2.2.2.2.2.2
  refine wrote_at m c 7 15 (by decide) (by decide) t y _ _ ((win0_7.rect_emb_val t y 0).trans ?_) ?_
  · rw [e]; rfl
  · show 5376 + (win0_7.index t 1 * 768 + (y 1).val) = max 7 (min (t.val % 15) 14) * 768 + (y 1).val
    rw [congrFun e 1]
    show 5376 + ((max 7 (min (t.val % 15) 14) - 7) * 768 + (y 1).val) = _
    omega

end Cert.In
-- ==== Proof.InRef.lean ====
/- The input projection as the reference computes it, column for column. -/
module
public import proofs.«01_k».proof.Proof.InMath
public import proofs.«01_k».proof.Proof.Gen.Reference2Ideal.Read
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
namespace Cert.Reference2Ideal.In
open Cert.Reference2Ideal Cert.Reference2Ideal.Gen Cert.Reference2Ideal.Read Cert.In
variable (x0 : FVec Ideal S8192x2048 .f32) (x1 : FVec Ideal S2x1x12288 .f32) (x2 : FVec Ideal S2x2048x11520 .f32)

/-- A token's row. -/
def tok (b : Fin 2) (s : Fin 4096) : Fin 8192 := ⟨b.val * 4096 + s.val, by have := b.isLt; have := s.isLt; omega⟩

/-- The modulated stream. -/
theorem r12 (b : Fin 2) (s : Fin 4096) (k : Fin 2048) :
    val_main_v12 (F := Ideal) x0 x1 (ix3 b s k) = x0 (ix2 (tok b s) k) * (1 + x1 (ix3 b 0 (sixth 1 k))) + x1 (ix3 b 0 (sixth 0 k)) := by
  rw [val_main_v12_apply, val_main_v10_apply]
  have a : val_main_v0 (F := Ideal) x0 (ix3 b s k) = x0 (ix2 (tok b s) k) := by pointwise [val_main_v0, tok]
  have g : val_main_v9 (F := Ideal) x1 (ix3 b s k) = 1 + x1 (ix3 b 0 (sixth 1 k)) := by pointwise [val_main_v9, val_main_v8, val_main_v7, val_main_v2, val_main_cst, sixth]
  have h : val_main_v11 (F := Ideal) x1 (ix3 b s k) = x1 (ix3 b 0 (sixth 0 k)) := by pointwise [val_main_v11, val_main_v1, sixth]
  rw [a, g, h]
  rfl

/-- The projection. -/
theorem r15 (b : Fin 2) (s : Fin 4096) (e : Fin 11520) :
    val_main_v15 (F := Ideal) x0 x1 x2 (ix3 b s e) = proj (fun k => x0 (ix2 (tok b s) k)) (fun k => x1 (ix3 b 0 (sixth 1 k))) (fun k => x1 (ix3 b 0 (sixth 0 k))) (fun k => x2 (ix3 0 k e)) := by
  rw [val_main_v15_apply]
  unfold proj
  refine Finset.sum_congr rfl fun k _ => ?_
  rw [show lidx_main_v15 (ix3 b s e) k = ix3 b s k from by blk_ext, show ridx_main_v15 (ix3 b s e) k = ix2 k e from by blk_ext, r12]
  congr 1
  pointwise [val_main_v14, val_main_v13]

/-- The projection at a token. -/
theorem flat (r : Fin 8192) (e : Fin 11520) :
    val_main_v15 (F := Ideal) x0 x1 x2 (ix3 ⟨r.val / 4096, by have := r.isLt; omega⟩ ⟨r.val % 4096, by omega⟩ e) = proj (fun k => x0 (ix2 r k)) (fun k => x1 (ix3 ⟨r.val / 4096, by have := r.isLt; omega⟩ 0 (sixth 1 k))) (fun k => x1 (ix3 ⟨r.val / 4096, by have := r.isLt; omega⟩ 0 (sixth 0 k))) (fun k => x2 (ix3 0 k e)) := by
  have e : tok ⟨r.val / 4096, by have := r.isLt; omega⟩ ⟨r.val % 4096, by omega⟩ = r := Fin.ext (by show r.val / 4096 * 4096 + r.val % 4096 = r.val; omega)
  rw [r15, e]

/-- The first result. -/
theorem r21 (r : Fin 8192) (d : Fin 1536) :
    val_main_v21 (F := Ideal) x0 x1 x2 (ix2 r d) = proj (fun k => x0 (ix2 r k)) (fun k => x1 (ix3 ⟨r.val / 4096, by have := r.isLt; omega⟩ 0 (sixth 1 k))) (fun k => x1 (ix3 ⟨r.val / 4096, by have := r.isLt; omega⟩ 0 (sixth 0 k))) (fun k => x2 (ix3 0 k ⟨0 + d.val, by have := d.isLt; omega⟩)) := by
  rw [← flat]
  pointwise [val_main_v21, val_main_v20, val_main_v16]

/-- The second result. -/
theorem r23 (r : Fin 8192) (d : Fin 2304) :
    val_main_v23 (F := Ideal) x0 x1 x2 (ix2 r d) = proj (fun k => x0 (ix2 r k)) (fun k => x1 (ix3 ⟨r.val / 4096, by have := r.isLt; omega⟩ 0 (sixth 1 k))) (fun k => x1 (ix3 ⟨r.val / 4096, by have := r.isLt; omega⟩ 0 (sixth 0 k))) (fun k => x2 (ix3 0 k ⟨1536 + d.val, by have := d.isLt; omega⟩)) := by
  rw [← flat]
  pointwise [val_main_v23, val_main_v22, val_main_v17]

/-- The third result. -/
theorem r25 (r : Fin 8192) (d : Fin 1536) :
    val_main_v25 (F := Ideal) x0 x1 x2 (ix2 r d) = proj (fun k => x0 (ix2 r k)) (fun k => x1 (ix3 ⟨r.val / 4096, by have := r.isLt; omega⟩ 0 (sixth 1 k))) (fun k => x1 (ix3 ⟨r.val / 4096, by have := r.isLt; omega⟩ 0 (sixth 0 k))) (fun k => x2 (ix3 0 k ⟨3840 + d.val, by have := d.isLt; omega⟩)) := by
  rw [← flat]
  pointwise [val_main_v25, val_main_v24, val_main_v18]

/-- The fourth result. -/
theorem r27 (r : Fin 8192) (d : Fin 6144) :
    val_main_v27 (F := Ideal) x0 x1 x2 (ix2 r d) = proj (fun k => x0 (ix2 r k)) (fun k => x1 (ix3 ⟨r.val / 4096, by have := r.isLt; omega⟩ 0 (sixth 1 k))) (fun k => x1 (ix3 ⟨r.val / 4096, by have := r.isLt; omega⟩ 0 (sixth 0 k))) (fun k => x2 (ix3 0 k ⟨5376 + d.val, by have := d.isLt; omega⟩)) := by
  rw [← flat]
  pointwise [val_main_v27, val_main_v26, val_main_v19]

end Cert.Reference2Ideal.In
-- ==== Proof.InJoin.lean ====
/- The four outputs the run leaves are the four results of the reference. -/
module
public import proofs.«01_k».proof.Proof.InVal
public import proofs.«01_k».proof.Proof.InRef
@[expose] public section
set_option maxRecDepth 16384
noncomputable section
open Idealize.ShloMosaic Idealize.ShloMosaic.TcCoe Idealize.SL.Sem
namespace Cert.Join
open Cert.Kernel2Ideal Cert.Kernel2Ideal.Gen

variable (m : (ℓ : Loc nD τ sig) → Buf (Elt Ideal) ℓ) (c : Dev nD) (x0 : FVec Ideal S8192x2048 .f32) (x1 : FVec Ideal S2x1x12288 .f32) (x2 : FVec Ideal S2x2048x11520 .f32)

/-- The first projected part is the reference's. -/
theorem in0 (h0 : x0 = m ((c.tc : Thread nD τ).loc main_arg0)) (h1 : x1 = m ((c.tc : Thread nD τ).loc main_arg1)) (h2 : x2 = m ((c.tc : Thread nD τ).loc main_arg2)) :
    (Cert.Reference2Ideal.Read.val_main_v21 (F := Ideal) x0 x1 x2 : FVec Ideal S8192x1536 .bf16) = (In.dats m 0 c).arrAt 4 cfg0.N := by
  subst h0 h1 h2
  refine Eq.trans ?_ (In.final4 m c).symm
  funext y
  idx_vars y
  exact Cert.Reference2Ideal.In.r21 _ _ _ _ _

/-- The second projected part is the reference's. -/
theorem in1 (h0 : x0 = m ((c.tc : Thread nD τ).loc main_arg0)) (h1 : x1 = m ((c.tc : Thread nD τ).loc main_arg1)) (h2 : x2 = m ((c.tc : Thread nD τ).loc main_arg2)) :
    (Cert.Reference2Ideal.Read.val_main_v23 (F := Ideal) x0 x1 x2 : FVec Ideal S8192x2304 .bf16) = (In.dats m 0 c).arrAt 5 cfg0.N := by
  subst h0 h1 h2
  refine Eq.trans ?_ (In.final5 m c).symm
  funext y
  idx_vars y
  exact Cert.Reference2Ideal.In.r23 _ _ _ _ _

/-- The third projected part is the reference's. -/
theorem in2 (h0 : x0 = m ((c.tc : Thread nD τ).loc main_arg0)) (h1 : x1 = m ((c.tc : Thread nD τ).loc main_arg1)) (h2 : x2 = m ((c.tc : Thread nD τ).loc main_arg2)) :
    (Cert.Reference2Ideal.Read.val_main_v25 (F := Ideal) x0 x1 x2 : FVec Ideal S8192x1536 .bf16) = (In.dats m 0 c).arrAt 6 cfg0.N := by
  subst h0 h1 h2
  refine Eq.trans ?_ (In.final6 m c).symm
  funext y
  idx_vars y
  exact Cert.Reference2Ideal.In.r25 _ _ _ _ _

/-- The fourth projected part is the reference's. -/
theorem in3 (h0 : x0 = m ((c.tc : Thread nD τ).loc main_arg0)) (h1 : x1 = m ((c.tc : Thread nD τ).loc main_arg1)) (h2 : x2 = m ((c.tc : Thread nD τ).loc main_arg2)) :
    (Cert.Reference2Ideal.Read.val_main_v27 (F := Ideal) x0 x1 x2 : FVec Ideal S8192x6144 .bf16) = (In.dats m 0 c).arrAt 7 cfg0.N := by
  subst h0 h1 h2
  refine Eq.trans ?_ (In.final7 m c).symm
  funext y
  idx_vars y
  exact Cert.Reference2Ideal.In.r27 _ _ _ _ _

end Cert.Join
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Join
public import proofs.«01_k».proof.Proof.Join2
public import proofs.«01_k».proof.Proof.InJoin
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

attribute [local instance] Cert.Join.preFacts

/-- The reference runs, leaves its arguments as they were and ends quiet. -/
theorem frame_r : Cert.quiescent_ReferenceIdeal := by
  intro m g _
  exact (θ_run Cert.ReferenceIdeal.defs _ _).mono (fun r h => ⟨fun c => (h c).2.2.2, sem_eq_zero_of_no_sems (by decide) r.2⟩)
    (Cert.ReferenceIdeal.Value.run (F := Ideal) m g)

set_option maxHeartbeats 1600000 in
/-- The idealized kernel and the reference give the same three arrays where the gains are finite. -/
theorem algebraic : Cert.algebraic_KernelIdeal_ReferenceIdeal_pre_gains_finite := by
  pair_intro
  · run_from Cert.KernelIdeal.Gen.run_main m g
  · have hg := fun c d => Cert.Join.gains _ _ _ _ _ (hpre c) d
    refine (θ_run Cert.ReferenceIdeal.defs _ _).mono (fun r h c => ?_) (Cert.ReferenceIdeal.Value.run (F := Ideal) m' g')
    obtain ⟨a0, a1, a2, a3, a4⟩ := hagree c
    obtain ⟨e0, e1, e2, rest⟩ := h c
    refine ⟨e0.trans ?_, e1.trans ?_, e2.trans ?_, rest⟩
    · refine (Cert.ReferenceIdeal.Read.val_main_v145_eq _).trans ?_
      exact Cert.Join.same0 m c _ _ _ a0 a1 a2 (fun d => (hg c d).1) (fun d => (hg c d).2)
    · exact (Cert.ReferenceIdeal.Read.val_main_v148_eq _).trans (Cert.Join.same1 m c _ a3)
    · exact (Cert.ReferenceIdeal.Read.val_main_v152_eq _).trans (Cert.Join.same2 m c _ a4)

set_option maxRecDepth 16384 in
/-- The input projection's bodies are the same program before and after idealizing. -/
theorem bodies : Cert.Kernel2.defs₀ (F := Bits) = Cert.Kernel2Ideal.defs₀ (F := Bits) :=
  congrArg Defs.onTc (funext fun l => funext fun x => match l, x with | 0, (_, _) => rfl)

/-- So are its body tables. -/
theorem tables : Cert.Kernel2.defs (F := Bits) = Cert.Kernel2Ideal.defs (F := Bits) :=
  congrArg (Pipeline.defs (Cert.Kernel2Ideal.pcfgs (F := Bits))) bodies

/-- The input projection runs, leaves its arguments as they were and ends quiet. -/
theorem frame_k2 : Cert.quiescent_Kernel2 := by
  intro m g _
  rw [tables]
  exact (θ_run Cert.Kernel2Ideal.defs _ _).mono (fun _ h => ⟨fun c => (h.1 c).2.2.2.2, h.2⟩) (Cert.In.run (F := Bits) m g)

/-- The idealized input projection runs, leaves its arguments as they were and ends quiet. -/
theorem frame_k2i : Cert.quiescent_Kernel2Ideal := fun m g _ =>
  (θ_run Cert.Kernel2Ideal.defs _ _).mono (fun _ h => ⟨fun c => (h.1 c).2.2.2.2, h.2⟩) (Cert.In.run (F := Ideal) m g)

/-- The input projection's reference runs, leaves its arguments as they were and ends quiet. -/
theorem frame_r2 : Cert.quiescent_Reference2Ideal := by
  intro m g _
  exact (θ_run Cert.Reference2Ideal.defs _ _).mono (fun r h => ⟨fun c => (h c).2.2.2.2, sem_eq_zero_of_no_sems (by decide) r.2⟩)
    (Cert.Reference2Ideal.Value.run (F := Ideal) m g)

set_option maxHeartbeats 1600000 in
/-- The idealized input projection and its reference give the same four arrays. -/
theorem algebraic2 : Cert.algebraic_Kernel2Ideal_Reference2Ideal := by
  intro m g m' g' _ hagree
  refine ⟨fun c => (Cert.In.dats m 0 c).arrAt 4 Cert.Kernel2Ideal.cfg0.N, fun c => (Cert.In.dats m 0 c).arrAt 5 Cert.Kernel2Ideal.cfg0.N,
    fun c => (Cert.In.dats m 0 c).arrAt 6 Cert.Kernel2Ideal.cfg0.N, fun c => (Cert.In.dats m 0 c).arrAt 7 Cert.Kernel2Ideal.cfg0.N, ?_, ?_⟩
  · exact (θ_run Cert.Kernel2Ideal.defs _ _).mono (fun _ h => h.1) (Cert.In.run (F := Ideal) m g)
  · refine (θ_run Cert.Reference2Ideal.defs _ _).mono (fun r h c => ?_) (Cert.Reference2Ideal.Value.run (F := Ideal) m' g')
    obtain ⟨a0, a1, a2⟩ := hagree c
    obtain ⟨e0, e1, e2, e3, rest⟩ := h c
    refine ⟨e0.trans ?_, e1.trans ?_, e2.trans ?_, e3.trans ?_, rest⟩
    · exact (Cert.Reference2Ideal.Read.val_main_v21_eq _ _ _).trans (Cert.Join.in0 m c _ _ _ a0 a1 a2)
    · exact (Cert.Reference2Ideal.Read.val_main_v23_eq _ _ _).trans (Cert.Join.in1 m c _ _ _ a0 a1 a2)
    · exact (Cert.Reference2Ideal.Read.val_main_v25_eq _ _ _).trans (Cert.Join.in2 m c _ _ _ a0 a1 a2)
    · exact (Cert.Reference2Ideal.Read.val_main_v27_eq _ _ _).trans (Cert.Join.in3 m c _ _ _ a0 a1 a2)

/-- The branch merge's reference runs, leaves its arguments as they were and ends quiet. -/
theorem frame_r3 : Cert.quiescent_Reference3Ideal := by
  intro m g _
  exact (θ_run Cert.Reference3Ideal.defs _ _).mono (fun r h => ⟨fun c => (h c).2, sem_eq_zero_of_no_sems (by decide) r.2⟩)
    (Cert.Reference3Ideal.Value.run (F := Ideal) m g)

/-- The output projection's reference runs, leaves its arguments as they were and ends quiet. -/
theorem frame_r4 : Cert.quiescent_Reference4Ideal := by
  intro m g _
  exact (θ_run Cert.Reference4Ideal.defs _ _).mono (fun r h => ⟨fun c => (h c).2.2, sem_eq_zero_of_no_sems (by decide) r.2⟩)
    (Cert.Reference4Ideal.Value.run (F := Ideal) m g)

/-- The last norm's reference runs, leaves its arguments as they were and ends quiet. -/
theorem frame_r5 : Cert.quiescent_Reference5Ideal := by
  intro m g _
  exact (θ_run Cert.Reference5Ideal.defs _ _).mono (fun r h => ⟨fun c => (h c).2, sem_eq_zero_of_no_sems (by decide) r.2⟩)
    (Cert.Reference5Ideal.Value.run (F := Ideal) m g)

set_option maxHeartbeats 1600000 in
/-- The idealized branch merge and its reference give the same. -/
theorem algebraic3 : Cert.algebraic_Kernel3Ideal_Reference3Ideal := by
  pair_intro
  · run_from Cert.Kernel3Ideal.Gen.run_main m g
  · refine (θ_run Cert.Reference3Ideal.defs _ _).mono (fun r h c => ?_) (Cert.Reference3Ideal.Value.run (F := Ideal) m' g')
    obtain ⟨a0, a1, a2, a3, a4, a5, a6⟩ := hagree c
    obtain ⟨e0, rest⟩ := h c
    refine ⟨e0.trans ?_, rest⟩
    · exact (Cert.Reference3Ideal.Read.val_main_v35_eq _ _ _ _ _ _ _).trans (Cert.Join.merge m c _ _ _ _ _ _ _ a0 a1 a2 a3 a4 a5 a6)

set_option maxHeartbeats 1600000 in
/-- The idealized output projection and its reference give the same. -/
theorem algebraic4 : Cert.algebraic_Kernel4Ideal_Reference4Ideal := by
  pair_intro
  · run_from Cert.Kernel4Ideal.Gen.run_main m g
  · refine (θ_run Cert.Reference4Ideal.defs _ _).mono (fun r h c => ?_) (Cert.Reference4Ideal.Value.run (F := Ideal) m' g')
    obtain ⟨a0, a1, a2, a3, a4, a5⟩ := hagree c
    obtain ⟨e0, e1, rest⟩ := h c
    refine ⟨e0.trans ?_, e1.trans ?_, rest⟩
    · exact (Cert.Reference4Ideal.Read.val_main_v53_eq _ c).trans (Cert.Join.proj0 m c _ _ _ _ _ _ a0 a1 a2 a3 a4 a5)
    · exact (Cert.Reference4Ideal.Read.val_main_v56_eq _ c).trans (Cert.Join.proj1 m c _ _ _ _ _ _ a0 a1 a2 a3 a4 a5)

set_option maxHeartbeats 1600000 in
/-- The idealized last norm and its reference give the same. -/
theorem algebraic5 : Cert.algebraic_Kernel5Ideal_Reference5Ideal := by
  pair_intro
  · run_from Cert.Kernel5Ideal.Gen.run_main m g
  · refine (θ_run Cert.Reference5Ideal.defs _ _).mono (fun r h c => ?_) (Cert.Reference5Ideal.Value.run (F := Ideal) m' g')
    obtain ⟨a0, a1, a2, a3, a4⟩ := hagree c
    obtain ⟨e0, rest⟩ := h c
    refine ⟨e0.trans ?_, rest⟩
    · exact (Cert.Reference5Ideal.Read.val_main_v44_eq _ c).trans (Cert.Join.last m c _ _ _ _ _ a0 a1 a2 a3 a4)

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Join.preFacts,
  fun m g _ => Cert.Kernel.Gen.frame m g,
  fun m g _ => Cert.KernelIdeal.Gen.frame m g,
  fun m g _ => Cert.KernelIdeal.Gen.frame m g,
  frame_r,
  fun m g _ => frame_r m g trivial,
  frame_k2,
  frame_k2i,
  frame_r2,
  fun m g _ => Cert.Kernel3.Gen.frame m g,
  fun m g _ => Cert.Kernel3Ideal.Gen.frame m g,
  frame_r3,
  fun m g _ => Cert.Kernel4.Gen.frame m g,
  fun m g _ => Cert.Kernel4Ideal.Gen.frame m g,
  frame_r4,
  fun m g _ => Cert.Kernel5.Gen.frame m g,
  fun m g _ => Cert.Kernel5Ideal.Gen.frame m g,
  frame_r5,
  trivial,
  algebraic,
  trivial,
  algebraic2,
  trivial,
  algebraic3,
  trivial,
  algebraic4,
  trivial,
  algebraic5⟩

end Cert.Proof

end
